-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x32768 : Shape := ⟨2, ![128, 32768]⟩
abbrev S32768x128 : Shape := ⟨2, ![32768, 128]⟩
abbrev S1x1 : Shape := ⟨2, ![1, 1]⟩
abbrev S_ : Shape := ⟨0, ![]⟩
abbrev S512x1 : Shape := ⟨2, ![512, 1]⟩
abbrev S512x128 : Shape := ⟨2, ![512, 128]⟩
abbrev S32x16x128 : Shape := ⟨3, ![32, 16, 128]⟩
abbrev S32x8x128 : Shape := ⟨3, ![32, 8, 128]⟩
abbrev S16x32x128 : Shape := ⟨3, ![16, 32, 128]⟩
abbrev S16x16x128 : Shape := ⟨3, ![16, 16, 128]⟩
abbrev S16x8x128 : Shape := ⟨3, ![16, 8, 128]⟩
abbrev S8x64x128 : Shape := ⟨3, ![8, 64, 128]⟩
abbrev S8x32x128 : Shape := ⟨3, ![8, 32, 128]⟩
abbrev S8x16x128 : Shape := ⟨3, ![8, 16, 128]⟩
abbrev S8x8x128 : Shape := ⟨3, ![8, 8, 128]⟩
abbrev S4x128x128 : Shape := ⟨3, ![4, 128, 128]⟩
abbrev S4x64x128 : Shape := ⟨3, ![4, 64, 128]⟩
abbrev S4x32x128 : Shape := ⟨3, ![4, 32, 128]⟩
abbrev S4x16x128 : Shape := ⟨3, ![4, 16, 128]⟩
abbrev S4x8x128 : Shape := ⟨3, ![4, 8, 128]⟩
abbrev S2x256x128 : Shape := ⟨3, ![2, 256, 128]⟩
abbrev S2x128x128 : Shape := ⟨3, ![2, 128, 128]⟩
abbrev S2x64x128 : Shape := ⟨3, ![2, 64, 128]⟩
abbrev S2x32x128 : Shape := ⟨3, ![2, 32, 128]⟩
abbrev S2x16x128 : Shape := ⟨3, ![2, 16, 128]⟩
abbrev S2x8x128 : Shape := ⟨3, ![2, 8, 128]⟩
abbrev S1x512x128 : Shape := ⟨3, ![1, 512, 128]⟩
abbrev S1x256x128 : Shape := ⟨3, ![1, 256, 128]⟩
abbrev S1x128x128 : Shape := ⟨3, ![1, 128, 128]⟩
abbrev S1x64x128 : Shape := ⟨3, ![1, 64, 128]⟩
abbrev S1x32x128 : Shape := ⟨3, ![1, 32, 128]⟩
abbrev S1x16x128 : Shape := ⟨3, ![1, 16, 128]⟩
abbrev S1x8x128 : Shape := ⟨3, ![1, 8, 128]⟩
abbrev S2048x128 : Shape := ⟨2, ![2048, 128]⟩
abbrev S1x2048x128 : Shape := ⟨3, ![1, 2048, 128]⟩
abbrev S1 : Shape := ⟨1, ![1]⟩
abbrev S1x1x1 : Shape := ⟨3, ![1, 1, 1]⟩

abbrev nBuf : Space → Nat
  | .hbm => 8
  | .vmem => 2
  | .smem => 1
  | _ => 0

abbrev bufTy : (tb : Table) → Fin (tcTables nBuf tb) → BufTy
  | .hbm, ⟨0, _⟩ => ⟨S128x32768, .f32⟩
  | .hbm, ⟨1, _⟩ => ⟨S128x32768, .f32⟩
  | .hbm, ⟨2, _⟩ => ⟨S32768x128, .f32⟩
  | .hbm, ⟨3, _⟩ => ⟨S32768x128, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S32768x128, .f32⟩
  | .local _ .vmem, ⟨1, _⟩ => ⟨S32768x128, .f32⟩
  | .local _ .smem, ⟨0, _⟩ => ⟨S1x1, .f32⟩
  | _, _ => ⟨S128x32768, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_cst : Ref sig .tc := ⟨.hbm, 6, rfl⟩
abbrev main_v0 : Ref sig .tc := ⟨.hbm, 7, rfl⟩
abbrev cc0_scratch0 : Ref sig .tc := ⟨.vmem, 0, rfl⟩
abbrev cc0_scratch1 : Ref sig .tc := ⟨.vmem, 1, rfl⟩
abbrev cc0_stg0_0 : Ref sig .tc := ⟨.smem, 0, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_22 : BitVec 32 := 0#32
  let c64_i32_23 : BitVec 32 := 64#32
  let v64 : BitVec 32 := Scalar.addi c0_i32_22 c64_i32_23
  let c1_i32 : BitVec 32 := 1#32
  ⟨c0_i32_22, v64, c1_i32⟩
def k0_off1 (k0_t1 : Fin k0_t1_loop.trips) : Fin 2 → Nat :=
  let c0_i32_22 : BitVec 32 := 0#32
  let c1_i32 : BitVec 32 := 1#32
  let arg7 : BitVec 32 := Scf.iv c0_i32_22 c1_i32 k0_t1
  let c512_i32 : BitVec 32 := 512#32
  let v111 : BitVec 32 := Scalar.muli arg7 c512_i32
  let v112 : Index := Scalar.indexCast v111
  let c0_203 : Index := 0#32
  ![v112.toNat, 0]
@[reducible] def k0_t2_loop : Scf.Loop 32 :=
  let c0_i32_25 : BitVec 32 := 0#32
  let c32_i32_26 : BitVec 32 := 32#32
  let v65 : BitVec 32 := Scalar.addi c0_i32_25 c32_i32_26
  let c1_i32_27 : BitVec 32 := 1#32
  ⟨c0_i32_25, v65, c1_i32_27⟩
def k0_off2 (k0_t2 : Fin k0_t2_loop.trips) : Fin 2 → Nat :=
  let c2_i32_203 : BitVec 32 := 2#32
  let c0_i32_25 : BitVec 32 := 0#32
  let c1_i32_27 : BitVec 32 := 1#32
  let arg7 : BitVec 32 := Scf.iv c0_i32_25 c1_i32_27 k0_t2
  let v111 : BitVec 32 := Scalar.muli c2_i32_203 arg7
  let c512_i32 : BitVec 32 := 512#32
  let v112 : BitVec 32 := Scalar.muli v111 c512_i32
  let v118 : Index := Scalar.indexCast v112
  let c0_210 : Index := 0#32
  ![v118.toNat, 0]
def k0_off3 (k0_t2 : Fin k0_t2_loop.trips) : Fin 2 → Nat :=
  let c2_i32_203 : BitVec 32 := 2#32
  let c0_i32_25 : BitVec 32 := 0#32
  let c1_i32_27 : BitVec 32 := 1#32
  let arg7 : BitVec 32 := Scf.iv c0_i32_25 c1_i32_27 k0_t2
  let v111 : BitVec 32 := Scalar.muli c2_i32_203 arg7
  let c512_i32 : BitVec 32 := 512#32
  let v112 : BitVec 32 := Scalar.muli v111 c512_i32
  let c512_i32_204 : BitVec 32 := 512#32
  let v113 : BitVec 32 := Scalar.addi v112 c512_i32_204
  let v122 : Index := Scalar.indexCast v113
  let c0_211 : Index := 0#32
  ![v122.toNat, 0]
@[reducible] def k0_t3_loop : Scf.Loop 32 :=
  let c0_i32_29 : BitVec 32 := 0#32
  let c32_i32_30 : BitVec 32 := 32#32
  let v66 : BitVec 32 := Scalar.addi c0_i32_29 c32_i32_30
  let c1_i32_31 : BitVec 32 := 1#32
  ⟨c0_i32_29, v66, c1_i32_31⟩
def k0_off4 (k0_t3 : Fin k0_t3_loop.trips) : Fin 2 → Nat :=
  let c0_i32_29 : BitVec 32 := 0#32
  let c1_i32_31 : BitVec 32 := 1#32
  let arg7 : BitVec 32 := Scf.iv c0_i32_29 c1_i32_31 k0_t3
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c2_i32_203 : BitVec 32 := 2#32
  let c0_i32_206 : BitVec 32 := 0#32
  let v117 : BitVec 1 := Scalar.cmpi .sgt c2_i32_203 c0_i32_206
  let v118 : BitVec 32 := Scalar.extui v117
  let c0_i32_207 : BitVec 32 := 0#32
  let v119 : BitVec 1 := Scalar.cmpi .slt c2_i32_203 c0_i32_207
  let v120 : BitVec 32 := Scalar.extui v119
  let v121 : BitVec 32 := Scalar.subi v118 v120
  let v122 : BitVec 1 := Scalar.cmpi .ne v116 v121
  let v123 : BitVec 32 := Scalar.remsi arg7 c2_i32_203
  let c0_i32_208 : BitVec 32 := 0#32
  let v124 : BitVec 1 := Scalar.cmpi .ne v123 c0_i32_208
  let v125 : BitVec 1 := Scalar.andi v122 v124
  let v111 : BitVec 32 := Scalar.divsi arg7 c2_i32_203
  let c1_i32_209 : BitVec 32 := 1#32
  let v126 : BitVec 32 := Scalar.subi v111 c1_i32_209
  let v127 : BitVec 32 := Scalar.select v125 v126 v111
  let c2048_i32 : BitVec 32 := 2048#32
  let v130 : BitVec 32 := Scalar.muli v127 c2048_i32
  let c2_i32_210 : BitVec 32 := 2#32
  let v128 : BitVec 32 := Scalar.muli v127 c2_i32_210
  let v129 : BitVec 32 := Scalar.subi arg7 v128
  let c512_i32 : BitVec 32 := 512#32
  let v131 : BitVec 32 := Scalar.muli v129 c512_i32
  let v132 : BitVec 32 := Scalar.addi v130 v131
  let v134 : Index := Scalar.indexCast v132
  let c0_211 : Index := 0#32
  ![v134.toNat, 0]
def k0_off5 (k0_t3 : Fin k0_t3_loop.trips) : Fin 2 → Nat :=
  let c0_i32_29 : BitVec 32 := 0#32
  let c1_i32_31 : BitVec 32 := 1#32
  let arg7 : BitVec 32 := Scf.iv c0_i32_29 c1_i32_31 k0_t3
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c2_i32_203 : BitVec 32 := 2#32
  let c0_i32_206 : BitVec 32 := 0#32
  let v117 : BitVec 1 := Scalar.cmpi .sgt c2_i32_203 c0_i32_206
  let v118 : BitVec 32 := Scalar.extui v117
  let c0_i32_207 : BitVec 32 := 0#32
  let v119 : BitVec 1 := Scalar.cmpi .slt c2_i32_203 c0_i32_207
  let v120 : BitVec 32 := Scalar.extui v119
  let v121 : BitVec 32 := Scalar.subi v118 v120
  let v122 : BitVec 1 := Scalar.cmpi .ne v116 v121
  let v123 : BitVec 32 := Scalar.remsi arg7 c2_i32_203
  let c0_i32_208 : BitVec 32 := 0#32
  let v124 : BitVec 1 := Scalar.cmpi .ne v123 c0_i32_208
  let v125 : BitVec 1 := Scalar.andi v122 v124
  let v111 : BitVec 32 := Scalar.divsi arg7 c2_i32_203
  let c1_i32_209 : BitVec 32 := 1#32
  let v126 : BitVec 32 := Scalar.subi v111 c1_i32_209
  let v127 : BitVec 32 := Scalar.select v125 v126 v111
  let c2048_i32 : BitVec 32 := 2048#32
  let v130 : BitVec 32 := Scalar.muli v127 c2048_i32
  let c2_i32_210 : BitVec 32 := 2#32
  let v128 : BitVec 32 := Scalar.muli v127 c2_i32_210
  let v129 : BitVec 32 := Scalar.subi arg7 v128
  let c512_i32 : BitVec 32 := 512#32
  let v131 : BitVec 32 := Scalar.muli v129 c512_i32
  let v132 : BitVec 32 := Scalar.addi v130 v131
  let c1024_i32 : BitVec 32 := 1024#32
  let v133 : BitVec 32 := Scalar.addi v132 c1024_i32
  let v136 : Index := Scalar.indexCast v133
  let c0_212 : Index := 0#32
  ![v136.toNat, 0]
@[reducible] def k0_t4_loop : Scf.Loop 32 :=
  let c0_i32_33 : BitVec 32 := 0#32
  let c32_i32_34 : BitVec 32 := 32#32
  let v67 : BitVec 32 := Scalar.addi c0_i32_33 c32_i32_34
  let c1_i32_35 : BitVec 32 := 1#32
  ⟨c0_i32_33, v67, c1_i32_35⟩
def k0_off6 (k0_t4 : Fin k0_t4_loop.trips) : Fin 2 → Nat :=
  let c2_i32_203 : BitVec 32 := 2#32
  let c0_i32_33 : BitVec 32 := 0#32
  let c1_i32_35 : BitVec 32 := 1#32
  let arg7 : BitVec 32 := Scf.iv c0_i32_33 c1_i32_35 k0_t4
  let v111 : BitVec 32 := Scalar.muli c2_i32_203 arg7
  let c512_i32 : BitVec 32 := 512#32
  let v112 : BitVec 32 := Scalar.muli v111 c512_i32
  let v118 : Index := Scalar.indexCast v112
  let c0_210 : Index := 0#32
  ![v118.toNat, 0]
def k0_off7 (k0_t4 : Fin k0_t4_loop.trips) : Fin 2 → Nat :=
  let c2_i32_203 : BitVec 32 := 2#32
  let c0_i32_33 : BitVec 32 := 0#32
  let c1_i32_35 : BitVec 32 := 1#32
  let arg7 : BitVec 32 := Scf.iv c0_i32_33 c1_i32_35 k0_t4
  let v111 : BitVec 32 := Scalar.muli c2_i32_203 arg7
  let c512_i32 : BitVec 32 := 512#32
  let v112 : BitVec 32 := Scalar.muli v111 c512_i32
  let c512_i32_204 : BitVec 32 := 512#32
  let v113 : BitVec 32 := Scalar.addi v112 c512_i32_204
  let v122 : Index := Scalar.indexCast v113
  let c0_211 : Index := 0#32
  ![v122.toNat, 0]
@[reducible] def k0_t5_loop : Scf.Loop 32 :=
  let c0_i32_37 : BitVec 32 := 0#32
  let c32_i32_38 : BitVec 32 := 32#32
  let v68 : BitVec 32 := Scalar.addi c0_i32_37 c32_i32_38
  let c1_i32_39 : BitVec 32 := 1#32
  ⟨c0_i32_37, v68, c1_i32_39⟩
def k0_off8 (k0_t5 : Fin k0_t5_loop.trips) : Fin 2 → Nat :=
  let c0_i32_37 : BitVec 32 := 0#32
  let c1_i32_39 : BitVec 32 := 1#32
  let arg7 : BitVec 32 := Scf.iv c0_i32_37 c1_i32_39 k0_t5
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c4_i32_203 : BitVec 32 := 4#32
  let c0_i32_206 : BitVec 32 := 0#32
  let v117 : BitVec 1 := Scalar.cmpi .sgt c4_i32_203 c0_i32_206
  let v118 : BitVec 32 := Scalar.extui v117
  let c0_i32_207 : BitVec 32 := 0#32
  let v119 : BitVec 1 := Scalar.cmpi .slt c4_i32_203 c0_i32_207
  let v120 : BitVec 32 := Scalar.extui v119
  let v121 : BitVec 32 := Scalar.subi v118 v120
  let v122 : BitVec 1 := Scalar.cmpi .ne v116 v121
  let v123 : BitVec 32 := Scalar.remsi arg7 c4_i32_203
  let c0_i32_208 : BitVec 32 := 0#32
  let v124 : BitVec 1 := Scalar.cmpi .ne v123 c0_i32_208
  let v125 : BitVec 1 := Scalar.andi v122 v124
  let v111 : BitVec 32 := Scalar.divsi arg7 c4_i32_203
  let c1_i32_209 : BitVec 32 := 1#32
  let v126 : BitVec 32 := Scalar.subi v111 c1_i32_209
  let v127 : BitVec 32 := Scalar.select v125 v126 v111
  let c4096_i32 : BitVec 32 := 4096#32
  let v130 : BitVec 32 := Scalar.muli v127 c4096_i32
  let c4_i32_210 : BitVec 32 := 4#32
  let v128 : BitVec 32 := Scalar.muli v127 c4_i32_210
  let v129 : BitVec 32 := Scalar.subi arg7 v128
  let c512_i32 : BitVec 32 := 512#32
  let v131 : BitVec 32 := Scalar.muli v129 c512_i32
  let v132 : BitVec 32 := Scalar.addi v130 v131
  let v134 : Index := Scalar.indexCast v132
  let c0_211 : Index := 0#32
  ![v134.toNat, 0]
def k0_off9 (k0_t5 : Fin k0_t5_loop.trips) : Fin 2 → Nat :=
  let c0_i32_37 : BitVec 32 := 0#32
  let c1_i32_39 : BitVec 32 := 1#32
  let arg7 : BitVec 32 := Scf.iv c0_i32_37 c1_i32_39 k0_t5
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c4_i32_203 : BitVec 32 := 4#32
  let c0_i32_206 : BitVec 32 := 0#32
  let v117 : BitVec 1 := Scalar.cmpi .sgt c4_i32_203 c0_i32_206
  let v118 : BitVec 32 := Scalar.extui v117
  let c0_i32_207 : BitVec 32 := 0#32
  let v119 : BitVec 1 := Scalar.cmpi .slt c4_i32_203 c0_i32_207
  let v120 : BitVec 32 := Scalar.extui v119
  let v121 : BitVec 32 := Scalar.subi v118 v120
  let v122 : BitVec 1 := Scalar.cmpi .ne v116 v121
  let v123 : BitVec 32 := Scalar.remsi arg7 c4_i32_203
  let c0_i32_208 : BitVec 32 := 0#32
  let v124 : BitVec 1 := Scalar.cmpi .ne v123 c0_i32_208
  let v125 : BitVec 1 := Scalar.andi v122 v124
  let v111 : BitVec 32 := Scalar.divsi arg7 c4_i32_203
  let c1_i32_209 : BitVec 32 := 1#32
  let v126 : BitVec 32 := Scalar.subi v111 c1_i32_209
  let v127 : BitVec 32 := Scalar.select v125 v126 v111
  let c4096_i32 : BitVec 32 := 4096#32
  let v130 : BitVec 32 := Scalar.muli v127 c4096_i32
  let c4_i32_210 : BitVec 32 := 4#32
  let v128 : BitVec 32 := Scalar.muli v127 c4_i32_210
  let v129 : BitVec 32 := Scalar.subi arg7 v128
  let c512_i32 : BitVec 32 := 512#32
  let v131 : BitVec 32 := Scalar.muli v129 c512_i32
  let v132 : BitVec 32 := Scalar.addi v130 v131
  let c2048_i32 : BitVec 32 := 2048#32
  let v133 : BitVec 32 := Scalar.addi v132 c2048_i32
  let v136 : Index := Scalar.indexCast v133
  let c0_212 : Index := 0#32
  ![v136.toNat, 0]
@[reducible] def k0_t6_loop : Scf.Loop 32 :=
  let c0_i32_41 : BitVec 32 := 0#32
  let c32_i32_42 : BitVec 32 := 32#32
  let v69 : BitVec 32 := Scalar.addi c0_i32_41 c32_i32_42
  let c1_i32_43 : BitVec 32 := 1#32
  ⟨c0_i32_41, v69, c1_i32_43⟩
def k0_off10 (k0_t6 : Fin k0_t6_loop.trips) : Fin 2 → Nat :=
  let c0_i32_41 : BitVec 32 := 0#32
  let c1_i32_43 : BitVec 32 := 1#32
  let arg7 : BitVec 32 := Scf.iv c0_i32_41 c1_i32_43 k0_t6
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c2_i32_203 : BitVec 32 := 2#32
  let c0_i32_206 : BitVec 32 := 0#32
  let v117 : BitVec 1 := Scalar.cmpi .sgt c2_i32_203 c0_i32_206
  let v118 : BitVec 32 := Scalar.extui v117
  let c0_i32_207 : BitVec 32 := 0#32
  let v119 : BitVec 1 := Scalar.cmpi .slt c2_i32_203 c0_i32_207
  let v120 : BitVec 32 := Scalar.extui v119
  let v121 : BitVec 32 := Scalar.subi v118 v120
  let v122 : BitVec 1 := Scalar.cmpi .ne v116 v121
  let v123 : BitVec 32 := Scalar.remsi arg7 c2_i32_203
  let c0_i32_208 : BitVec 32 := 0#32
  let v124 : BitVec 1 := Scalar.cmpi .ne v123 c0_i32_208
  let v125 : BitVec 1 := Scalar.andi v122 v124
  let v111 : BitVec 32 := Scalar.divsi arg7 c2_i32_203
  let c1_i32_209 : BitVec 32 := 1#32
  let v126 : BitVec 32 := Scalar.subi v111 c1_i32_209
  let v127 : BitVec 32 := Scalar.select v125 v126 v111
  let c2048_i32 : BitVec 32 := 2048#32
  let v130 : BitVec 32 := Scalar.muli v127 c2048_i32
  let c2_i32_210 : BitVec 32 := 2#32
  let v128 : BitVec 32 := Scalar.muli v127 c2_i32_210
  let v129 : BitVec 32 := Scalar.subi arg7 v128
  let c512_i32 : BitVec 32 := 512#32
  let v131 : BitVec 32 := Scalar.muli v129 c512_i32
  let v132 : BitVec 32 := Scalar.addi v130 v131
  let v134 : Index := Scalar.indexCast v132
  let c0_211 : Index := 0#32
  ![v134.toNat, 0]
def k0_off11 (k0_t6 : Fin k0_t6_loop.trips) : Fin 2 → Nat :=
  let c0_i32_41 : BitVec 32 := 0#32
  let c1_i32_43 : BitVec 32 := 1#32
  let arg7 : BitVec 32 := Scf.iv c0_i32_41 c1_i32_43 k0_t6
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c2_i32_203 : BitVec 32 := 2#32
  let c0_i32_206 : BitVec 32 := 0#32
  let v117 : BitVec 1 := Scalar.cmpi .sgt c2_i32_203 c0_i32_206
  let v118 : BitVec 32 := Scalar.extui v117
  let c0_i32_207 : BitVec 32 := 0#32
  let v119 : BitVec 1 := Scalar.cmpi .slt c2_i32_203 c0_i32_207
  let v120 : BitVec 32 := Scalar.extui v119
  let v121 : BitVec 32 := Scalar.subi v118 v120
  let v122 : BitVec 1 := Scalar.cmpi .ne v116 v121
  let v123 : BitVec 32 := Scalar.remsi arg7 c2_i32_203
  let c0_i32_208 : BitVec 32 := 0#32
  let v124 : BitVec 1 := Scalar.cmpi .ne v123 c0_i32_208
  let v125 : BitVec 1 := Scalar.andi v122 v124
  let v111 : BitVec 32 := Scalar.divsi arg7 c2_i32_203
  let c1_i32_209 : BitVec 32 := 1#32
  let v126 : BitVec 32 := Scalar.subi v111 c1_i32_209
  let v127 : BitVec 32 := Scalar.select v125 v126 v111
  let c2048_i32 : BitVec 32 := 2048#32
  let v130 : BitVec 32 := Scalar.muli v127 c2048_i32
  let c2_i32_210 : BitVec 32 := 2#32
  let v128 : BitVec 32 := Scalar.muli v127 c2_i32_210
  let v129 : BitVec 32 := Scalar.subi arg7 v128
  let c512_i32 : BitVec 32 := 512#32
  let v131 : BitVec 32 := Scalar.muli v129 c512_i32
  let v132 : BitVec 32 := Scalar.addi v130 v131
  let c1024_i32 : BitVec 32 := 1024#32
  let v133 : BitVec 32 := Scalar.addi v132 c1024_i32
  let v136 : Index := Scalar.indexCast v133
  let c0_212 : Index := 0#32
  ![v136.toNat, 0]
@[reducible] def k0_t7_loop : Scf.Loop 32 :=
  let c0_i32_45 : BitVec 32 := 0#32
  let c32_i32_46 : BitVec 32 := 32#32
  let v70 : BitVec 32 := Scalar.addi c0_i32_45 c32_i32_46
  let c1_i32_47 : BitVec 32 := 1#32
  ⟨c0_i32_45, v70, c1_i32_47⟩
def k0_off12 (k0_t7 : Fin k0_t7_loop.trips) : Fin 2 → Nat :=
  let c2_i32_203 : BitVec 32 := 2#32
  let c0_i32_45 : BitVec 32 := 0#32
  let c1_i32_47 : BitVec 32 := 1#32
  let arg7 : BitVec 32 := Scf.iv c0_i32_45 c1_i32_47 k0_t7
  let v111 : BitVec 32 := Scalar.muli c2_i32_203 arg7
  let c512_i32 : BitVec 32 := 512#32
  let v112 : BitVec 32 := Scalar.muli v111 c512_i32
  let v118 : Index := Scalar.indexCast v112
  let c0_210 : Index := 0#32
  ![v118.toNat, 0]
def k0_off13 (k0_t7 : Fin k0_t7_loop.trips) : Fin 2 → Nat :=
  let c2_i32_203 : BitVec 32 := 2#32
  let c0_i32_45 : BitVec 32 := 0#32
  let c1_i32_47 : BitVec 32 := 1#32
  let arg7 : BitVec 32 := Scf.iv c0_i32_45 c1_i32_47 k0_t7
  let v111 : BitVec 32 := Scalar.muli c2_i32_203 arg7
  let c512_i32 : BitVec 32 := 512#32
  let v112 : BitVec 32 := Scalar.muli v111 c512_i32
  let c512_i32_204 : BitVec 32 := 512#32
  let v113 : BitVec 32 := Scalar.addi v112 c512_i32_204
  let v122 : Index := Scalar.indexCast v113
  let c0_211 : Index := 0#32
  ![v122.toNat, 0]
@[reducible] def k0_t8_loop : Scf.Loop 32 :=
  let c0_i32_49 : BitVec 32 := 0#32
  let c32_i32_50 : BitVec 32 := 32#32
  let v71 : BitVec 32 := Scalar.addi c0_i32_49 c32_i32_50
  let c1_i32_51 : BitVec 32 := 1#32
  ⟨c0_i32_49, v71, c1_i32_51⟩
def k0_off14 (k0_t8 : Fin k0_t8_loop.trips) : Fin 2 → Nat :=
  let c0_i32_49 : BitVec 32 := 0#32
  let c1_i32_51 : BitVec 32 := 1#32
  let arg7 : BitVec 32 := Scf.iv c0_i32_49 c1_i32_51 k0_t8
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c8_i32_203 : BitVec 32 := 8#32
  let c0_i32_206 : BitVec 32 := 0#32
  let v117 : BitVec 1 := Scalar.cmpi .sgt c8_i32_203 c0_i32_206
  let v118 : BitVec 32 := Scalar.extui v117
  let c0_i32_207 : BitVec 32 := 0#32
  let v119 : BitVec 1 := Scalar.cmpi .slt c8_i32_203 c0_i32_207
  let v120 : BitVec 32 := Scalar.extui v119
  let v121 : BitVec 32 := Scalar.subi v118 v120
  let v122 : BitVec 1 := Scalar.cmpi .ne v116 v121
  let v123 : BitVec 32 := Scalar.remsi arg7 c8_i32_203
  let c0_i32_208 : BitVec 32 := 0#32
  let v124 : BitVec 1 := Scalar.cmpi .ne v123 c0_i32_208
  let v125 : BitVec 1 := Scalar.andi v122 v124
  let v111 : BitVec 32 := Scalar.divsi arg7 c8_i32_203
  let c1_i32_209 : BitVec 32 := 1#32
  let v126 : BitVec 32 := Scalar.subi v111 c1_i32_209
  let v127 : BitVec 32 := Scalar.select v125 v126 v111
  let c8192_i32 : BitVec 32 := 8192#32
  let v130 : BitVec 32 := Scalar.muli v127 c8192_i32
  let c8_i32_210 : BitVec 32 := 8#32
  let v128 : BitVec 32 := Scalar.muli v127 c8_i32_210
  let v129 : BitVec 32 := Scalar.subi arg7 v128
  let c512_i32 : BitVec 32 := 512#32
  let v131 : BitVec 32 := Scalar.muli v129 c512_i32
  let v132 : BitVec 32 := Scalar.addi v130 v131
  let v134 : Index := Scalar.indexCast v132
  let c0_211 : Index := 0#32
  ![v134.toNat, 0]
def k0_off15 (k0_t8 : Fin k0_t8_loop.trips) : Fin 2 → Nat :=
  let c0_i32_49 : BitVec 32 := 0#32
  let c1_i32_51 : BitVec 32 := 1#32
  let arg7 : BitVec 32 := Scf.iv c0_i32_49 c1_i32_51 k0_t8
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c8_i32_203 : BitVec 32 := 8#32
  let c0_i32_206 : BitVec 32 := 0#32
  let v117 : BitVec 1 := Scalar.cmpi .sgt c8_i32_203 c0_i32_206
  let v118 : BitVec 32 := Scalar.extui v117
  let c0_i32_207 : BitVec 32 := 0#32
  let v119 : BitVec 1 := Scalar.cmpi .slt c8_i32_203 c0_i32_207
  let v120 : BitVec 32 := Scalar.extui v119
  let v121 : BitVec 32 := Scalar.subi v118 v120
  let v122 : BitVec 1 := Scalar.cmpi .ne v116 v121
  let v123 : BitVec 32 := Scalar.remsi arg7 c8_i32_203
  let c0_i32_208 : BitVec 32 := 0#32
  let v124 : BitVec 1 := Scalar.cmpi .ne v123 c0_i32_208
  let v125 : BitVec 1 := Scalar.andi v122 v124
  let v111 : BitVec 32 := Scalar.divsi arg7 c8_i32_203
  let c1_i32_209 : BitVec 32 := 1#32
  let v126 : BitVec 32 := Scalar.subi v111 c1_i32_209
  let v127 : BitVec 32 := Scalar.select v125 v126 v111
  let c8192_i32 : BitVec 32 := 8192#32
  let v130 : BitVec 32 := Scalar.muli v127 c8192_i32
  let c8_i32_210 : BitVec 32 := 8#32
  let v128 : BitVec 32 := Scalar.muli v127 c8_i32_210
  let v129 : BitVec 32 := Scalar.subi arg7 v128
  let c512_i32 : BitVec 32 := 512#32
  let v131 : BitVec 32 := Scalar.muli v129 c512_i32
  let v132 : BitVec 32 := Scalar.addi v130 v131
  let c4096_i32 : BitVec 32 := 4096#32
  let v133 : BitVec 32 := Scalar.addi v132 c4096_i32
  let v136 : Index := Scalar.indexCast v133
  let c0_212 : Index := 0#32
  ![v136.toNat, 0]
@[reducible] def k0_t9_loop : Scf.Loop 32 :=
  let c0_i32_53 : BitVec 32 := 0#32
  let c32_i32_54 : BitVec 32 := 32#32
  let v72 : BitVec 32 := Scalar.addi c0_i32_53 c32_i32_54
  let c1_i32_55 : BitVec 32 := 1#32
  ⟨c0_i32_53, v72, c1_i32_55⟩
def k0_off16 (k0_t9 : Fin k0_t9_loop.trips) : Fin 2 → Nat :=
  let c0_i32_53 : BitVec 32 := 0#32
  let c1_i32_55 : BitVec 32 := 1#32
  let arg7 : BitVec 32 := Scf.iv c0_i32_53 c1_i32_55 k0_t9
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c4_i32_203 : BitVec 32 := 4#32
  let c0_i32_206 : BitVec 32 := 0#32
  let v117 : BitVec 1 := Scalar.cmpi .sgt c4_i32_203 c0_i32_206
  let v118 : BitVec 32 := Scalar.extui v117
  let c0_i32_207 : BitVec 32 := 0#32
  let v119 : BitVec 1 := Scalar.cmpi .slt c4_i32_203 c0_i32_207
  let v120 : BitVec 32 := Scalar.extui v119
  let v121 : BitVec 32 := Scalar.subi v118 v120
  let v122 : BitVec 1 := Scalar.cmpi .ne v116 v121
  let v123 : BitVec 32 := Scalar.remsi arg7 c4_i32_203
  let c0_i32_208 : BitVec 32 := 0#32
  let v124 : BitVec 1 := Scalar.cmpi .ne v123 c0_i32_208
  let v125 : BitVec 1 := Scalar.andi v122 v124
  let v111 : BitVec 32 := Scalar.divsi arg7 c4_i32_203
  let c1_i32_209 : BitVec 32 := 1#32
  let v126 : BitVec 32 := Scalar.subi v111 c1_i32_209
  let v127 : BitVec 32 := Scalar.select v125 v126 v111
  let c4096_i32 : BitVec 32 := 4096#32
  let v130 : BitVec 32 := Scalar.muli v127 c4096_i32
  let c4_i32_210 : BitVec 32 := 4#32
  let v128 : BitVec 32 := Scalar.muli v127 c4_i32_210
  let v129 : BitVec 32 := Scalar.subi arg7 v128
  let c512_i32 : BitVec 32 := 512#32
  let v131 : BitVec 32 := Scalar.muli v129 c512_i32
  let v132 : BitVec 32 := Scalar.addi v130 v131
  let v134 : Index := Scalar.indexCast v132
  let c0_211 : Index := 0#32
  ![v134.toNat, 0]
def k0_off17 (k0_t9 : Fin k0_t9_loop.trips) : Fin 2 → Nat :=
  let c0_i32_53 : BitVec 32 := 0#32
  let c1_i32_55 : BitVec 32 := 1#32
  let arg7 : BitVec 32 := Scf.iv c0_i32_53 c1_i32_55 k0_t9
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c4_i32_203 : BitVec 32 := 4#32
  let c0_i32_206 : BitVec 32 := 0#32
  let v117 : BitVec 1 := Scalar.cmpi .sgt c4_i32_203 c0_i32_206
  let v118 : BitVec 32 := Scalar.extui v117
  let c0_i32_207 : BitVec 32 := 0#32
  let v119 : BitVec 1 := Scalar.cmpi .slt c4_i32_203 c0_i32_207
  let v120 : BitVec 32 := Scalar.extui v119
  let v121 : BitVec 32 := Scalar.subi v118 v120
  let v122 : BitVec 1 := Scalar.cmpi .ne v116 v121
  let v123 : BitVec 32 := Scalar.remsi arg7 c4_i32_203
  let c0_i32_208 : BitVec 32 := 0#32
  let v124 : BitVec 1 := Scalar.cmpi .ne v123 c0_i32_208
  let v125 : BitVec 1 := Scalar.andi v122 v124
  let v111 : BitVec 32 := Scalar.divsi arg7 c4_i32_203
  let c1_i32_209 : BitVec 32 := 1#32
  let v126 : BitVec 32 := Scalar.subi v111 c1_i32_209
  let v127 : BitVec 32 := Scalar.select v125 v126 v111
  let c4096_i32 : BitVec 32 := 4096#32
  let v130 : BitVec 32 := Scalar.muli v127 c4096_i32
  let c4_i32_210 : BitVec 32 := 4#32
  let v128 : BitVec 32 := Scalar.muli v127 c4_i32_210
  let v129 : BitVec 32 := Scalar.subi arg7 v128
  let c512_i32 : BitVec 32 := 512#32
  let v131 : BitVec 32 := Scalar.muli v129 c512_i32
  let v132 : BitVec 32 := Scalar.addi v130 v131
  let c2048_i32 : BitVec 32 := 2048#32
  let v133 : BitVec 32 := Scalar.addi v132 c2048_i32
  let v136 : Index := Scalar.indexCast v133
  let c0_212 : Index := 0#32
  ![v136.toNat, 0]
@[reducible] def k0_t10_loop : Scf.Loop 32 :=
  let c0_i32_57 : BitVec 32 := 0#32
  let c32_i32_58 : BitVec 32 := 32#32
  let v73 : BitVec 32 := Scalar.addi c0_i32_57 c32_i32_58
  let c1_i32_59 : BitVec 32 := 1#32
  ⟨c0_i32_57, v73, c1_i32_59⟩
def k0_off18 (k0_t10 : Fin k0_t10_loop.trips) : Fin 2 → Nat :=
  let c0_i32_57 : BitVec 32 := 0#32
  let c1_i32_59 : BitVec 32 := 1#32
  let arg7 : BitVec 32 := Scf.iv c0_i32_57 c1_i32_59 k0_t10
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c2_i32_203 : BitVec 32 := 2#32
  let c0_i32_206 : BitVec 32 := 0#32
  let v117 : BitVec 1 := Scalar.cmpi .sgt c2_i32_203 c0_i32_206
  let v118 : BitVec 32 := Scalar.extui v117
  let c0_i32_207 : BitVec 32 := 0#32
  let v119 : BitVec 1 := Scalar.cmpi .slt c2_i32_203 c0_i32_207
  let v120 : BitVec 32 := Scalar.extui v119
  let v121 : BitVec 32 := Scalar.subi v118 v120
  let v122 : BitVec 1 := Scalar.cmpi .ne v116 v121
  let v123 : BitVec 32 := Scalar.remsi arg7 c2_i32_203
  let c0_i32_208 : BitVec 32 := 0#32
  let v124 : BitVec 1 := Scalar.cmpi .ne v123 c0_i32_208
  let v125 : BitVec 1 := Scalar.andi v122 v124
  let v111 : BitVec 32 := Scalar.divsi arg7 c2_i32_203
  let c1_i32_209 : BitVec 32 := 1#32
  let v126 : BitVec 32 := Scalar.subi v111 c1_i32_209
  let v127 : BitVec 32 := Scalar.select v125 v126 v111
  let c2048_i32 : BitVec 32 := 2048#32
  let v130 : BitVec 32 := Scalar.muli v127 c2048_i32
  let c2_i32_210 : BitVec 32 := 2#32
  let v128 : BitVec 32 := Scalar.muli v127 c2_i32_210
  let v129 : BitVec 32 := Scalar.subi arg7 v128
  let c512_i32 : BitVec 32 := 512#32
  let v131 : BitVec 32 := Scalar.muli v129 c512_i32
  let v132 : BitVec 32 := Scalar.addi v130 v131
  let v134 : Index := Scalar.indexCast v132
  let c0_211 : Index := 0#32
  ![v134.toNat, 0]
def k0_off19 (k0_t10 : Fin k0_t10_loop.trips) : Fin 2 → Nat :=
  let c0_i32_57 : BitVec 32 := 0#32
  let c1_i32_59 : BitVec 32 := 1#32
  let arg7 : BitVec 32 := Scf.iv c0_i32_57 c1_i32_59 k0_t10
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c2_i32_203 : BitVec 32 := 2#32
  let c0_i32_206 : BitVec 32 := 0#32
  let v117 : BitVec 1 := Scalar.cmpi .sgt c2_i32_203 c0_i32_206
  let v118 : BitVec 32 := Scalar.extui v117
  let c0_i32_207 : BitVec 32 := 0#32
  let v119 : BitVec 1 := Scalar.cmpi .slt c2_i32_203 c0_i32_207
  let v120 : BitVec 32 := Scalar.extui v119
  let v121 : BitVec 32 := Scalar.subi v118 v120
  let v122 : BitVec 1 := Scalar.cmpi .ne v116 v121
  let v123 : BitVec 32 := Scalar.remsi arg7 c2_i32_203
  let c0_i32_208 : BitVec 32 := 0#32
  let v124 : BitVec 1 := Scalar.cmpi .ne v123 c0_i32_208
  let v125 : BitVec 1 := Scalar.andi v122 v124
  let v111 : BitVec 32 := Scalar.divsi arg7 c2_i32_203
  let c1_i32_209 : BitVec 32 := 1#32
  let v126 : BitVec 32 := Scalar.subi v111 c1_i32_209
  let v127 : BitVec 32 := Scalar.select v125 v126 v111
  let c2048_i32 : BitVec 32 := 2048#32
  let v130 : BitVec 32 := Scalar.muli v127 c2048_i32
  let c2_i32_210 : BitVec 32 := 2#32
  let v128 : BitVec 32 := Scalar.muli v127 c2_i32_210
  let v129 : BitVec 32 := Scalar.subi arg7 v128
  let c512_i32 : BitVec 32 := 512#32
  let v131 : BitVec 32 := Scalar.muli v129 c512_i32
  let v132 : BitVec 32 := Scalar.addi v130 v131
  let c1024_i32 : BitVec 32 := 1024#32
  let v133 : BitVec 32 := Scalar.addi v132 c1024_i32
  let v136 : Index := Scalar.indexCast v133
  let c0_212 : Index := 0#32
  ![v136.toNat, 0]
@[reducible] def k0_t11_loop : Scf.Loop 32 :=
  let c0_i32_61 : BitVec 32 := 0#32
  let c32_i32_62 : BitVec 32 := 32#32
  let v74 : BitVec 32 := Scalar.addi c0_i32_61 c32_i32_62
  let c1_i32_63 : BitVec 32 := 1#32
  ⟨c0_i32_61, v74, c1_i32_63⟩
def k0_off20 (k0_t11 : Fin k0_t11_loop.trips) : Fin 2 → Nat :=
  let c2_i32_203 : BitVec 32 := 2#32
  let c0_i32_61 : BitVec 32 := 0#32
  let c1_i32_63 : BitVec 32 := 1#32
  let arg7 : BitVec 32 := Scf.iv c0_i32_61 c1_i32_63 k0_t11
  let v111 : BitVec 32 := Scalar.muli c2_i32_203 arg7
  let c512_i32 : BitVec 32 := 512#32
  let v112 : BitVec 32 := Scalar.muli v111 c512_i32
  let v118 : Index := Scalar.indexCast v112
  let c0_209 : Index := 0#32
  ![v118.toNat, 0]
def k0_off21 (k0_t11 : Fin k0_t11_loop.trips) : Fin 2 → Nat :=
  let c2_i32_203 : BitVec 32 := 2#32
  let c0_i32_61 : BitVec 32 := 0#32
  let c1_i32_63 : BitVec 32 := 1#32
  let arg7 : BitVec 32 := Scf.iv c0_i32_61 c1_i32_63 k0_t11
  let v111 : BitVec 32 := Scalar.muli c2_i32_203 arg7
  let c512_i32 : BitVec 32 := 512#32
  let v112 : BitVec 32 := Scalar.muli v111 c512_i32
  let c512_i32_204 : BitVec 32 := 512#32
  let v113 : BitVec 32 := Scalar.addi v112 c512_i32_204
  let v122 : Index := Scalar.indexCast v113
  let c0_210 : Index := 0#32
  ![v122.toNat, 0]
@[reducible] def k0_t12_loop : Scf.Loop 32 :=
  let c0_i32_65 : BitVec 32 := 0#32
  let c32_i32_66 : BitVec 32 := 32#32
  let v75 : BitVec 32 := Scalar.addi c0_i32_65 c32_i32_66
  let c1_i32_67 : BitVec 32 := 1#32
  ⟨c0_i32_65, v75, c1_i32_67⟩
def k0_off22 (k0_t12 : Fin k0_t12_loop.trips) : Fin 2 → Nat :=
  let c0_i32_65 : BitVec 32 := 0#32
  let c1_i32_67 : BitVec 32 := 1#32
  let arg7 : BitVec 32 := Scf.iv c0_i32_65 c1_i32_67 k0_t12
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c16_i32_203 : BitVec 32 := 16#32
  let c0_i32_206 : BitVec 32 := 0#32
  let v117 : BitVec 1 := Scalar.cmpi .sgt c16_i32_203 c0_i32_206
  let v118 : BitVec 32 := Scalar.extui v117
  let c0_i32_207 : BitVec 32 := 0#32
  let v119 : BitVec 1 := Scalar.cmpi .slt c16_i32_203 c0_i32_207
  let v120 : BitVec 32 := Scalar.extui v119
  let v121 : BitVec 32 := Scalar.subi v118 v120
  let v122 : BitVec 1 := Scalar.cmpi .ne v116 v121
  let v123 : BitVec 32 := Scalar.remsi arg7 c16_i32_203
  let c0_i32_208 : BitVec 32 := 0#32
  let v124 : BitVec 1 := Scalar.cmpi .ne v123 c0_i32_208
  let v125 : BitVec 1 := Scalar.andi v122 v124
  let v111 : BitVec 32 := Scalar.divsi arg7 c16_i32_203
  let c1_i32_209 : BitVec 32 := 1#32
  let v126 : BitVec 32 := Scalar.subi v111 c1_i32_209
  let v127 : BitVec 32 := Scalar.select v125 v126 v111
  let c16384_i32 : BitVec 32 := 16384#32
  let v130 : BitVec 32 := Scalar.muli v127 c16384_i32
  let c16_i32_210 : BitVec 32 := 16#32
  let v128 : BitVec 32 := Scalar.muli v127 c16_i32_210
  let v129 : BitVec 32 := Scalar.subi arg7 v128
  let c512_i32 : BitVec 32 := 512#32
  let v131 : BitVec 32 := Scalar.muli v129 c512_i32
  let v132 : BitVec 32 := Scalar.addi v130 v131
  let v134 : Index := Scalar.indexCast v132
  let c0_211 : Index := 0#32
  ![v134.toNat, 0]
def k0_off23 (k0_t12 : Fin k0_t12_loop.trips) : Fin 2 → Nat :=
  let c0_i32_65 : BitVec 32 := 0#32
  let c1_i32_67 : BitVec 32 := 1#32
  let arg7 : BitVec 32 := Scf.iv c0_i32_65 c1_i32_67 k0_t12
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c16_i32_203 : BitVec 32 := 16#32
  let c0_i32_206 : BitVec 32 := 0#32
  let v117 : BitVec 1 := Scalar.cmpi .sgt c16_i32_203 c0_i32_206
  let v118 : BitVec 32 := Scalar.extui v117
  let c0_i32_207 : BitVec 32 := 0#32
  let v119 : BitVec 1 := Scalar.cmpi .slt c16_i32_203 c0_i32_207
  let v120 : BitVec 32 := Scalar.extui v119
  let v121 : BitVec 32 := Scalar.subi v118 v120
  let v122 : BitVec 1 := Scalar.cmpi .ne v116 v121
  let v123 : BitVec 32 := Scalar.remsi arg7 c16_i32_203
  let c0_i32_208 : BitVec 32 := 0#32
  let v124 : BitVec 1 := Scalar.cmpi .ne v123 c0_i32_208
  let v125 : BitVec 1 := Scalar.andi v122 v124
  let v111 : BitVec 32 := Scalar.divsi arg7 c16_i32_203
  let c1_i32_209 : BitVec 32 := 1#32
  let v126 : BitVec 32 := Scalar.subi v111 c1_i32_209
  let v127 : BitVec 32 := Scalar.select v125 v126 v111
  let c16384_i32 : BitVec 32 := 16384#32
  let v130 : BitVec 32 := Scalar.muli v127 c16384_i32
  let c16_i32_210 : BitVec 32 := 16#32
  let v128 : BitVec 32 := Scalar.muli v127 c16_i32_210
  let v129 : BitVec 32 := Scalar.subi arg7 v128
  let c512_i32 : BitVec 32 := 512#32
  let v131 : BitVec 32 := Scalar.muli v129 c512_i32
  let v132 : BitVec 32 := Scalar.addi v130 v131
  let c8192_i32 : BitVec 32 := 8192#32
  let v133 : BitVec 32 := Scalar.addi v132 c8192_i32
  let v136 : Index := Scalar.indexCast v133
  let c0_212 : Index := 0#32
  ![v136.toNat, 0]
@[reducible] def k0_t13_loop : Scf.Loop 32 :=
  let c0_i32_69 : BitVec 32 := 0#32
  let c32_i32_70 : BitVec 32 := 32#32
  let v76 : BitVec 32 := Scalar.addi c0_i32_69 c32_i32_70
  let c1_i32_71 : BitVec 32 := 1#32
  ⟨c0_i32_69, v76, c1_i32_71⟩
def k0_off24 (k0_t13 : Fin k0_t13_loop.trips) : Fin 2 → Nat :=
  let c0_i32_69 : BitVec 32 := 0#32
  let c1_i32_71 : BitVec 32 := 1#32
  let arg7 : BitVec 32 := Scf.iv c0_i32_69 c1_i32_71 k0_t13
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c8_i32_203 : BitVec 32 := 8#32
  let c0_i32_206 : BitVec 32 := 0#32
  let v117 : BitVec 1 := Scalar.cmpi .sgt c8_i32_203 c0_i32_206
  let v118 : BitVec 32 := Scalar.extui v117
  let c0_i32_207 : BitVec 32 := 0#32
  let v119 : BitVec 1 := Scalar.cmpi .slt c8_i32_203 c0_i32_207
  let v120 : BitVec 32 := Scalar.extui v119
  let v121 : BitVec 32 := Scalar.subi v118 v120
  let v122 : BitVec 1 := Scalar.cmpi .ne v116 v121
  let v123 : BitVec 32 := Scalar.remsi arg7 c8_i32_203
  let c0_i32_208 : BitVec 32 := 0#32
  let v124 : BitVec 1 := Scalar.cmpi .ne v123 c0_i32_208
  let v125 : BitVec 1 := Scalar.andi v122 v124
  let v111 : BitVec 32 := Scalar.divsi arg7 c8_i32_203
  let c1_i32_209 : BitVec 32 := 1#32
  let v126 : BitVec 32 := Scalar.subi v111 c1_i32_209
  let v127 : BitVec 32 := Scalar.select v125 v126 v111
  let c8192_i32 : BitVec 32 := 8192#32
  let v130 : BitVec 32 := Scalar.muli v127 c8192_i32
  let c8_i32_210 : BitVec 32 := 8#32
  let v128 : BitVec 32 := Scalar.muli v127 c8_i32_210
  let v129 : BitVec 32 := Scalar.subi arg7 v128
  let c512_i32 : BitVec 32 := 512#32
  let v131 : BitVec 32 := Scalar.muli v129 c512_i32
  let v132 : BitVec 32 := Scalar.addi v130 v131
  let v134 : Index := Scalar.indexCast v132
  let c0_211 : Index := 0#32
  ![v134.toNat, 0]
def k0_off25 (k0_t13 : Fin k0_t13_loop.trips) : Fin 2 → Nat :=
  let c0_i32_69 : BitVec 32 := 0#32
  let c1_i32_71 : BitVec 32 := 1#32
  let arg7 : BitVec 32 := Scf.iv c0_i32_69 c1_i32_71 k0_t13
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c8_i32_203 : BitVec 32 := 8#32
  let c0_i32_206 : BitVec 32 := 0#32
  let v117 : BitVec 1 := Scalar.cmpi .sgt c8_i32_203 c0_i32_206
  let v118 : BitVec 32 := Scalar.extui v117
  let c0_i32_207 : BitVec 32 := 0#32
  let v119 : BitVec 1 := Scalar.cmpi .slt c8_i32_203 c0_i32_207
  let v120 : BitVec 32 := Scalar.extui v119
  let v121 : BitVec 32 := Scalar.subi v118 v120
  let v122 : BitVec 1 := Scalar.cmpi .ne v116 v121
  let v123 : BitVec 32 := Scalar.remsi arg7 c8_i32_203
  let c0_i32_208 : BitVec 32 := 0#32
  let v124 : BitVec 1 := Scalar.cmpi .ne v123 c0_i32_208
  let v125 : BitVec 1 := Scalar.andi v122 v124
  let v111 : BitVec 32 := Scalar.divsi arg7 c8_i32_203
  let c1_i32_209 : BitVec 32 := 1#32
  let v126 : BitVec 32 := Scalar.subi v111 c1_i32_209
  let v127 : BitVec 32 := Scalar.select v125 v126 v111
  let c8192_i32 : BitVec 32 := 8192#32
  let v130 : BitVec 32 := Scalar.muli v127 c8192_i32
  let c8_i32_210 : BitVec 32 := 8#32
  let v128 : BitVec 32 := Scalar.muli v127 c8_i32_210
  let v129 : BitVec 32 := Scalar.subi arg7 v128
  let c512_i32 : BitVec 32 := 512#32
  let v131 : BitVec 32 := Scalar.muli v129 c512_i32
  let v132 : BitVec 32 := Scalar.addi v130 v131
  let c4096_i32 : BitVec 32 := 4096#32
  let v133 : BitVec 32 := Scalar.addi v132 c4096_i32
  let v136 : Index := Scalar.indexCast v133
  let c0_212 : Index := 0#32
  ![v136.toNat, 0]
@[reducible] def k0_t14_loop : Scf.Loop 32 :=
  let c0_i32_73 : BitVec 32 := 0#32
  let c32_i32_74 : BitVec 32 := 32#32
  let v77 : BitVec 32 := Scalar.addi c0_i32_73 c32_i32_74
  let c1_i32_75 : BitVec 32 := 1#32
  ⟨c0_i32_73, v77, c1_i32_75⟩
def k0_off26 (k0_t14 : Fin k0_t14_loop.trips) : Fin 2 → Nat :=
  let c0_i32_73 : BitVec 32 := 0#32
  let c1_i32_75 : BitVec 32 := 1#32
  let arg7 : BitVec 32 := Scf.iv c0_i32_73 c1_i32_75 k0_t14
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c4_i32_203 : BitVec 32 := 4#32
  let c0_i32_206 : BitVec 32 := 0#32
  let v117 : BitVec 1 := Scalar.cmpi .sgt c4_i32_203 c0_i32_206
  let v118 : BitVec 32 := Scalar.extui v117
  let c0_i32_207 : BitVec 32 := 0#32
  let v119 : BitVec 1 := Scalar.cmpi .slt c4_i32_203 c0_i32_207
  let v120 : BitVec 32 := Scalar.extui v119
  let v121 : BitVec 32 := Scalar.subi v118 v120
  let v122 : BitVec 1 := Scalar.cmpi .ne v116 v121
  let v123 : BitVec 32 := Scalar.remsi arg7 c4_i32_203
  let c0_i32_208 : BitVec 32 := 0#32
  let v124 : BitVec 1 := Scalar.cmpi .ne v123 c0_i32_208
  let v125 : BitVec 1 := Scalar.andi v122 v124
  let v111 : BitVec 32 := Scalar.divsi arg7 c4_i32_203
  let c1_i32_209 : BitVec 32 := 1#32
  let v126 : BitVec 32 := Scalar.subi v111 c1_i32_209
  let v127 : BitVec 32 := Scalar.select v125 v126 v111
  let c4096_i32 : BitVec 32 := 4096#32
  let v130 : BitVec 32 := Scalar.muli v127 c4096_i32
  let c4_i32_210 : BitVec 32 := 4#32
  let v128 : BitVec 32 := Scalar.muli v127 c4_i32_210
  let v129 : BitVec 32 := Scalar.subi arg7 v128
  let c512_i32 : BitVec 32 := 512#32
  let v131 : BitVec 32 := Scalar.muli v129 c512_i32
  let v132 : BitVec 32 := Scalar.addi v130 v131
  let v134 : Index := Scalar.indexCast v132
  let c0_211 : Index := 0#32
  ![v134.toNat, 0]
def k0_off27 (k0_t14 : Fin k0_t14_loop.trips) : Fin 2 → Nat :=
  let c0_i32_73 : BitVec 32 := 0#32
  let c1_i32_75 : BitVec 32 := 1#32
  let arg7 : BitVec 32 := Scf.iv c0_i32_73 c1_i32_75 k0_t14
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c4_i32_203 : BitVec 32 := 4#32
  let c0_i32_206 : BitVec 32 := 0#32
  let v117 : BitVec 1 := Scalar.cmpi .sgt c4_i32_203 c0_i32_206
  let v118 : BitVec 32 := Scalar.extui v117
  let c0_i32_207 : BitVec 32 := 0#32
  let v119 : BitVec 1 := Scalar.cmpi .slt c4_i32_203 c0_i32_207
  let v120 : BitVec 32 := Scalar.extui v119
  let v121 : BitVec 32 := Scalar.subi v118 v120
  let v122 : BitVec 1 := Scalar.cmpi .ne v116 v121
  let v123 : BitVec 32 := Scalar.remsi arg7 c4_i32_203
  let c0_i32_208 : BitVec 32 := 0#32
  let v124 : BitVec 1 := Scalar.cmpi .ne v123 c0_i32_208
  let v125 : BitVec 1 := Scalar.andi v122 v124
  let v111 : BitVec 32 := Scalar.divsi arg7 c4_i32_203
  let c1_i32_209 : BitVec 32 := 1#32
  let v126 : BitVec 32 := Scalar.subi v111 c1_i32_209
  let v127 : BitVec 32 := Scalar.select v125 v126 v111
  let c4096_i32 : BitVec 32 := 4096#32
  let v130 : BitVec 32 := Scalar.muli v127 c4096_i32
  let c4_i32_210 : BitVec 32 := 4#32
  let v128 : BitVec 32 := Scalar.muli v127 c4_i32_210
  let v129 : BitVec 32 := Scalar.subi arg7 v128
  let c512_i32 : BitVec 32 := 512#32
  let v131 : BitVec 32 := Scalar.muli v129 c512_i32
  let v132 : BitVec 32 := Scalar.addi v130 v131
  let c2048_i32 : BitVec 32 := 2048#32
  let v133 : BitVec 32 := Scalar.addi v132 c2048_i32
  let v136 : Index := Scalar.indexCast v133
  let c0_212 : Index := 0#32
  ![v136.toNat, 0]
@[reducible] def k0_t15_loop : Scf.Loop 32 :=
  let c0_i32_77 : BitVec 32 := 0#32
  let c32_i32_78 : BitVec 32 := 32#32
  let v78 : BitVec 32 := Scalar.addi c0_i32_77 c32_i32_78
  let c1_i32_79 : BitVec 32 := 1#32
  ⟨c0_i32_77, v78, c1_i32_79⟩
def k0_off28 (k0_t15 : Fin k0_t15_loop.trips) : Fin 2 → Nat :=
  let c0_i32_77 : BitVec 32 := 0#32
  let c1_i32_79 : BitVec 32 := 1#32
  let arg7 : BitVec 32 := Scf.iv c0_i32_77 c1_i32_79 k0_t15
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c2_i32_203 : BitVec 32 := 2#32
  let c0_i32_206 : BitVec 32 := 0#32
  let v117 : BitVec 1 := Scalar.cmpi .sgt c2_i32_203 c0_i32_206
  let v118 : BitVec 32 := Scalar.extui v117
  let c0_i32_207 : BitVec 32 := 0#32
  let v119 : BitVec 1 := Scalar.cmpi .slt c2_i32_203 c0_i32_207
  let v120 : BitVec 32 := Scalar.extui v119
  let v121 : BitVec 32 := Scalar.subi v118 v120
  let v122 : BitVec 1 := Scalar.cmpi .ne v116 v121
  let v123 : BitVec 32 := Scalar.remsi arg7 c2_i32_203
  let c0_i32_208 : BitVec 32 := 0#32
  let v124 : BitVec 1 := Scalar.cmpi .ne v123 c0_i32_208
  let v125 : BitVec 1 := Scalar.andi v122 v124
  let v111 : BitVec 32 := Scalar.divsi arg7 c2_i32_203
  let c1_i32_209 : BitVec 32 := 1#32
  let v126 : BitVec 32 := Scalar.subi v111 c1_i32_209
  let v127 : BitVec 32 := Scalar.select v125 v126 v111
  let c2048_i32 : BitVec 32 := 2048#32
  let v130 : BitVec 32 := Scalar.muli v127 c2048_i32
  let c2_i32_210 : BitVec 32 := 2#32
  let v128 : BitVec 32 := Scalar.muli v127 c2_i32_210
  let v129 : BitVec 32 := Scalar.subi arg7 v128
  let c512_i32 : BitVec 32 := 512#32
  let v131 : BitVec 32 := Scalar.muli v129 c512_i32
  let v132 : BitVec 32 := Scalar.addi v130 v131
  let v134 : Index := Scalar.indexCast v132
  let c0_211 : Index := 0#32
  ![v134.toNat, 0]
def k0_off29 (k0_t15 : Fin k0_t15_loop.trips) : Fin 2 → Nat :=
  let c0_i32_77 : BitVec 32 := 0#32
  let c1_i32_79 : BitVec 32 := 1#32
  let arg7 : BitVec 32 := Scf.iv c0_i32_77 c1_i32_79 k0_t15
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c2_i32_203 : BitVec 32 := 2#32
  let c0_i32_206 : BitVec 32 := 0#32
  let v117 : BitVec 1 := Scalar.cmpi .sgt c2_i32_203 c0_i32_206
  let v118 : BitVec 32 := Scalar.extui v117
  let c0_i32_207 : BitVec 32 := 0#32
  let v119 : BitVec 1 := Scalar.cmpi .slt c2_i32_203 c0_i32_207
  let v120 : BitVec 32 := Scalar.extui v119
  let v121 : BitVec 32 := Scalar.subi v118 v120
  let v122 : BitVec 1 := Scalar.cmpi .ne v116 v121
  let v123 : BitVec 32 := Scalar.remsi arg7 c2_i32_203
  let c0_i32_208 : BitVec 32 := 0#32
  let v124 : BitVec 1 := Scalar.cmpi .ne v123 c0_i32_208
  let v125 : BitVec 1 := Scalar.andi v122 v124
  let v111 : BitVec 32 := Scalar.divsi arg7 c2_i32_203
  let c1_i32_209 : BitVec 32 := 1#32
  let v126 : BitVec 32 := Scalar.subi v111 c1_i32_209
  let v127 : BitVec 32 := Scalar.select v125 v126 v111
  let c2048_i32 : BitVec 32 := 2048#32
  let v130 : BitVec 32 := Scalar.muli v127 c2048_i32
  let c2_i32_210 : BitVec 32 := 2#32
  let v128 : BitVec 32 := Scalar.muli v127 c2_i32_210
  let v129 : BitVec 32 := Scalar.subi arg7 v128
  let c512_i32 : BitVec 32 := 512#32
  let v131 : BitVec 32 := Scalar.muli v129 c512_i32
  let v132 : BitVec 32 := Scalar.addi v130 v131
  let c1024_i32 : BitVec 32 := 1024#32
  let v133 : BitVec 32 := Scalar.addi v132 c1024_i32
  let v136 : Index := Scalar.indexCast v133
  let c0_212 : Index := 0#32
  ![v136.toNat, 0]
@[reducible] def k0_t16_loop : Scf.Loop 32 :=
  let c0_i32_81 : BitVec 32 := 0#32
  let c32_i32_82 : BitVec 32 := 32#32
  let v79 : BitVec 32 := Scalar.addi c0_i32_81 c32_i32_82
  let c1_i32_83 : BitVec 32 := 1#32
  ⟨c0_i32_81, v79, c1_i32_83⟩
def k0_off30 (k0_t16 : Fin k0_t16_loop.trips) : Fin 2 → Nat :=
  let c2_i32_203 : BitVec 32 := 2#32
  let c0_i32_81 : BitVec 32 := 0#32
  let c1_i32_83 : BitVec 32 := 1#32
  let arg7 : BitVec 32 := Scf.iv c0_i32_81 c1_i32_83 k0_t16
  let v111 : BitVec 32 := Scalar.muli c2_i32_203 arg7
  let c512_i32 : BitVec 32 := 512#32
  let v112 : BitVec 32 := Scalar.muli v111 c512_i32
  let v118 : Index := Scalar.indexCast v112
  let c0_210 : Index := 0#32
  ![v118.toNat, 0]
def k0_off31 (k0_t16 : Fin k0_t16_loop.trips) : Fin 2 → Nat :=
  let c2_i32_203 : BitVec 32 := 2#32
  let c0_i32_81 : BitVec 32 := 0#32
  let c1_i32_83 : BitVec 32 := 1#32
  let arg7 : BitVec 32 := Scf.iv c0_i32_81 c1_i32_83 k0_t16
  let v111 : BitVec 32 := Scalar.muli c2_i32_203 arg7
  let c512_i32 : BitVec 32 := 512#32
  let v112 : BitVec 32 := Scalar.muli v111 c512_i32
  let c512_i32_204 : BitVec 32 := 512#32
  let v113 : BitVec 32 := Scalar.addi v112 c512_i32_204
  let v122 : Index := Scalar.indexCast v113
  let c0_211 : Index := 0#32
  ![v122.toNat, 0]
@[reducible] def k0_t17_loop : Scf.Loop 32 :=
  let c0_i32_85 : BitVec 32 := 0#32
  let c32_i32_86 : BitVec 32 := 32#32
  let v80 : BitVec 32 := Scalar.addi c0_i32_85 c32_i32_86
  let c1_i32_87 : BitVec 32 := 1#32
  ⟨c0_i32_85, v80, c1_i32_87⟩
def k0_off32 (k0_t17 : Fin k0_t17_loop.trips) : Fin 2 → Nat :=
  let c0_i32_85 : BitVec 32 := 0#32
  let c1_i32_87 : BitVec 32 := 1#32
  let arg7 : BitVec 32 := Scf.iv c0_i32_85 c1_i32_87 k0_t17
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c32_i32_203 : BitVec 32 := 32#32
  let c0_i32_206 : BitVec 32 := 0#32
  let v117 : BitVec 1 := Scalar.cmpi .sgt c32_i32_203 c0_i32_206
  let v118 : BitVec 32 := Scalar.extui v117
  let c0_i32_207 : BitVec 32 := 0#32
  let v119 : BitVec 1 := Scalar.cmpi .slt c32_i32_203 c0_i32_207
  let v120 : BitVec 32 := Scalar.extui v119
  let v121 : BitVec 32 := Scalar.subi v118 v120
  let v122 : BitVec 1 := Scalar.cmpi .ne v116 v121
  let v123 : BitVec 32 := Scalar.remsi arg7 c32_i32_203
  let c0_i32_208 : BitVec 32 := 0#32
  let v124 : BitVec 1 := Scalar.cmpi .ne v123 c0_i32_208
  let v125 : BitVec 1 := Scalar.andi v122 v124
  let v111 : BitVec 32 := Scalar.divsi arg7 c32_i32_203
  let c1_i32_209 : BitVec 32 := 1#32
  let v126 : BitVec 32 := Scalar.subi v111 c1_i32_209
  let v127 : BitVec 32 := Scalar.select v125 v126 v111
  let c32768_i32 : BitVec 32 := 32768#32
  let v130 : BitVec 32 := Scalar.muli v127 c32768_i32
  let c32_i32_210 : BitVec 32 := 32#32
  let v128 : BitVec 32 := Scalar.muli v127 c32_i32_210
  let v129 : BitVec 32 := Scalar.subi arg7 v128
  let c512_i32 : BitVec 32 := 512#32
  let v131 : BitVec 32 := Scalar.muli v129 c512_i32
  let v132 : BitVec 32 := Scalar.addi v130 v131
  let v134 : Index := Scalar.indexCast v132
  let c0_211 : Index := 0#32
  ![v134.toNat, 0]
def k0_off33 (k0_t17 : Fin k0_t17_loop.trips) : Fin 2 → Nat :=
  let c0_i32_85 : BitVec 32 := 0#32
  let c1_i32_87 : BitVec 32 := 1#32
  let arg7 : BitVec 32 := Scf.iv c0_i32_85 c1_i32_87 k0_t17
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c32_i32_203 : BitVec 32 := 32#32
  let c0_i32_206 : BitVec 32 := 0#32
  let v117 : BitVec 1 := Scalar.cmpi .sgt c32_i32_203 c0_i32_206
  let v118 : BitVec 32 := Scalar.extui v117
  let c0_i32_207 : BitVec 32 := 0#32
  let v119 : BitVec 1 := Scalar.cmpi .slt c32_i32_203 c0_i32_207
  let v120 : BitVec 32 := Scalar.extui v119
  let v121 : BitVec 32 := Scalar.subi v118 v120
  let v122 : BitVec 1 := Scalar.cmpi .ne v116 v121
  let v123 : BitVec 32 := Scalar.remsi arg7 c32_i32_203
  let c0_i32_208 : BitVec 32 := 0#32
  let v124 : BitVec 1 := Scalar.cmpi .ne v123 c0_i32_208
  let v125 : BitVec 1 := Scalar.andi v122 v124
  let v111 : BitVec 32 := Scalar.divsi arg7 c32_i32_203
  let c1_i32_209 : BitVec 32 := 1#32
  let v126 : BitVec 32 := Scalar.subi v111 c1_i32_209
  let v127 : BitVec 32 := Scalar.select v125 v126 v111
  let c32768_i32 : BitVec 32 := 32768#32
  let v130 : BitVec 32 := Scalar.muli v127 c32768_i32
  let c32_i32_210 : BitVec 32 := 32#32
  let v128 : BitVec 32 := Scalar.muli v127 c32_i32_210
  let v129 : BitVec 32 := Scalar.subi arg7 v128
  let c512_i32 : BitVec 32 := 512#32
  let v131 : BitVec 32 := Scalar.muli v129 c512_i32
  let v132 : BitVec 32 := Scalar.addi v130 v131
  let c16384_i32 : BitVec 32 := 16384#32
  let v133 : BitVec 32 := Scalar.addi v132 c16384_i32
  let v136 : Index := Scalar.indexCast v133
  let c0_212 : Index := 0#32
  ![v136.toNat, 0]
@[reducible] def k0_t18_loop : Scf.Loop 32 :=
  let c0_i32_89 : BitVec 32 := 0#32
  let c32_i32_90 : BitVec 32 := 32#32
  let v81 : BitVec 32 := Scalar.addi c0_i32_89 c32_i32_90
  let c1_i32_91 : BitVec 32 := 1#32
  ⟨c0_i32_89, v81, c1_i32_91⟩
def k0_off34 (k0_t18 : Fin k0_t18_loop.trips) : Fin 2 → Nat :=
  let c0_i32_89 : BitVec 32 := 0#32
  let c1_i32_91 : BitVec 32 := 1#32
  let arg7 : BitVec 32 := Scf.iv c0_i32_89 c1_i32_91 k0_t18
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c16_i32_203 : BitVec 32 := 16#32
  let c0_i32_206 : BitVec 32 := 0#32
  let v117 : BitVec 1 := Scalar.cmpi .sgt c16_i32_203 c0_i32_206
  let v118 : BitVec 32 := Scalar.extui v117
  let c0_i32_207 : BitVec 32 := 0#32
  let v119 : BitVec 1 := Scalar.cmpi .slt c16_i32_203 c0_i32_207
  let v120 : BitVec 32 := Scalar.extui v119
  let v121 : BitVec 32 := Scalar.subi v118 v120
  let v122 : BitVec 1 := Scalar.cmpi .ne v116 v121
  let v123 : BitVec 32 := Scalar.remsi arg7 c16_i32_203
  let c0_i32_208 : BitVec 32 := 0#32
  let v124 : BitVec 1 := Scalar.cmpi .ne v123 c0_i32_208
  let v125 : BitVec 1 := Scalar.andi v122 v124
  let v111 : BitVec 32 := Scalar.divsi arg7 c16_i32_203
  let c1_i32_209 : BitVec 32 := 1#32
  let v126 : BitVec 32 := Scalar.subi v111 c1_i32_209
  let v127 : BitVec 32 := Scalar.select v125 v126 v111
  let c16384_i32 : BitVec 32 := 16384#32
  let v130 : BitVec 32 := Scalar.muli v127 c16384_i32
  let c16_i32_210 : BitVec 32 := 16#32
  let v128 : BitVec 32 := Scalar.muli v127 c16_i32_210
  let v129 : BitVec 32 := Scalar.subi arg7 v128
  let c512_i32 : BitVec 32 := 512#32
  let v131 : BitVec 32 := Scalar.muli v129 c512_i32
  let v132 : BitVec 32 := Scalar.addi v130 v131
  let v134 : Index := Scalar.indexCast v132
  let c0_211 : Index := 0#32
  ![v134.toNat, 0]
def k0_off35 (k0_t18 : Fin k0_t18_loop.trips) : Fin 2 → Nat :=
  let c0_i32_89 : BitVec 32 := 0#32
  let c1_i32_91 : BitVec 32 := 1#32
  let arg7 : BitVec 32 := Scf.iv c0_i32_89 c1_i32_91 k0_t18
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c16_i32_203 : BitVec 32 := 16#32
  let c0_i32_206 : BitVec 32 := 0#32
  let v117 : BitVec 1 := Scalar.cmpi .sgt c16_i32_203 c0_i32_206
  let v118 : BitVec 32 := Scalar.extui v117
  let c0_i32_207 : BitVec 32 := 0#32
  let v119 : BitVec 1 := Scalar.cmpi .slt c16_i32_203 c0_i32_207
  let v120 : BitVec 32 := Scalar.extui v119
  let v121 : BitVec 32 := Scalar.subi v118 v120
  let v122 : BitVec 1 := Scalar.cmpi .ne v116 v121
  let v123 : BitVec 32 := Scalar.remsi arg7 c16_i32_203
  let c0_i32_208 : BitVec 32 := 0#32
  let v124 : BitVec 1 := Scalar.cmpi .ne v123 c0_i32_208
  let v125 : BitVec 1 := Scalar.andi v122 v124
  let v111 : BitVec 32 := Scalar.divsi arg7 c16_i32_203
  let c1_i32_209 : BitVec 32 := 1#32
  let v126 : BitVec 32 := Scalar.subi v111 c1_i32_209
  let v127 : BitVec 32 := Scalar.select v125 v126 v111
  let c16384_i32 : BitVec 32 := 16384#32
  let v130 : BitVec 32 := Scalar.muli v127 c16384_i32
  let c16_i32_210 : BitVec 32 := 16#32
  let v128 : BitVec 32 := Scalar.muli v127 c16_i32_210
  let v129 : BitVec 32 := Scalar.subi arg7 v128
  let c512_i32 : BitVec 32 := 512#32
  let v131 : BitVec 32 := Scalar.muli v129 c512_i32
  let v132 : BitVec 32 := Scalar.addi v130 v131
  let c8192_i32 : BitVec 32 := 8192#32
  let v133 : BitVec 32 := Scalar.addi v132 c8192_i32
  let v136 : Index := Scalar.indexCast v133
  let c0_212 : Index := 0#32
  ![v136.toNat, 0]
@[reducible] def k0_t19_loop : Scf.Loop 32 :=
  let c0_i32_93 : BitVec 32 := 0#32
  let c32_i32_94 : BitVec 32 := 32#32
  let v82 : BitVec 32 := Scalar.addi c0_i32_93 c32_i32_94
  let c1_i32_95 : BitVec 32 := 1#32
  ⟨c0_i32_93, v82, c1_i32_95⟩
def k0_off36 (k0_t19 : Fin k0_t19_loop.trips) : Fin 2 → Nat :=
  let c0_i32_93 : BitVec 32 := 0#32
  let c1_i32_95 : BitVec 32 := 1#32
  let arg7 : BitVec 32 := Scf.iv c0_i32_93 c1_i32_95 k0_t19
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c8_i32_203 : BitVec 32 := 8#32
  let c0_i32_206 : BitVec 32 := 0#32
  let v117 : BitVec 1 := Scalar.cmpi .sgt c8_i32_203 c0_i32_206
  let v118 : BitVec 32 := Scalar.extui v117
  let c0_i32_207 : BitVec 32 := 0#32
  let v119 : BitVec 1 := Scalar.cmpi .slt c8_i32_203 c0_i32_207
  let v120 : BitVec 32 := Scalar.extui v119
  let v121 : BitVec 32 := Scalar.subi v118 v120
  let v122 : BitVec 1 := Scalar.cmpi .ne v116 v121
  let v123 : BitVec 32 := Scalar.remsi arg7 c8_i32_203
  let c0_i32_208 : BitVec 32 := 0#32
  let v124 : BitVec 1 := Scalar.cmpi .ne v123 c0_i32_208
  let v125 : BitVec 1 := Scalar.andi v122 v124
  let v111 : BitVec 32 := Scalar.divsi arg7 c8_i32_203
  let c1_i32_209 : BitVec 32 := 1#32
  let v126 : BitVec 32 := Scalar.subi v111 c1_i32_209
  let v127 : BitVec 32 := Scalar.select v125 v126 v111
  let c8192_i32 : BitVec 32 := 8192#32
  let v130 : BitVec 32 := Scalar.muli v127 c8192_i32
  let c8_i32_210 : BitVec 32 := 8#32
  let v128 : BitVec 32 := Scalar.muli v127 c8_i32_210
  let v129 : BitVec 32 := Scalar.subi arg7 v128
  let c512_i32 : BitVec 32 := 512#32
  let v131 : BitVec 32 := Scalar.muli v129 c512_i32
  let v132 : BitVec 32 := Scalar.addi v130 v131
  let v134 : Index := Scalar.indexCast v132
  let c0_211 : Index := 0#32
  ![v134.toNat, 0]
def k0_off37 (k0_t19 : Fin k0_t19_loop.trips) : Fin 2 → Nat :=
  let c0_i32_93 : BitVec 32 := 0#32
  let c1_i32_95 : BitVec 32 := 1#32
  let arg7 : BitVec 32 := Scf.iv c0_i32_93 c1_i32_95 k0_t19
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c8_i32_203 : BitVec 32 := 8#32
  let c0_i32_206 : BitVec 32 := 0#32
  let v117 : BitVec 1 := Scalar.cmpi .sgt c8_i32_203 c0_i32_206
  let v118 : BitVec 32 := Scalar.extui v117
  let c0_i32_207 : BitVec 32 := 0#32
  let v119 : BitVec 1 := Scalar.cmpi .slt c8_i32_203 c0_i32_207
  let v120 : BitVec 32 := Scalar.extui v119
  let v121 : BitVec 32 := Scalar.subi v118 v120
  let v122 : BitVec 1 := Scalar.cmpi .ne v116 v121
  let v123 : BitVec 32 := Scalar.remsi arg7 c8_i32_203
  let c0_i32_208 : BitVec 32 := 0#32
  let v124 : BitVec 1 := Scalar.cmpi .ne v123 c0_i32_208
  let v125 : BitVec 1 := Scalar.andi v122 v124
  let v111 : BitVec 32 := Scalar.divsi arg7 c8_i32_203
  let c1_i32_209 : BitVec 32 := 1#32
  let v126 : BitVec 32 := Scalar.subi v111 c1_i32_209
  let v127 : BitVec 32 := Scalar.select v125 v126 v111
  let c8192_i32 : BitVec 32 := 8192#32
  let v130 : BitVec 32 := Scalar.muli v127 c8192_i32
  let c8_i32_210 : BitVec 32 := 8#32
  let v128 : BitVec 32 := Scalar.muli v127 c8_i32_210
  let v129 : BitVec 32 := Scalar.subi arg7 v128
  let c512_i32 : BitVec 32 := 512#32
  let v131 : BitVec 32 := Scalar.muli v129 c512_i32
  let v132 : BitVec 32 := Scalar.addi v130 v131
  let c4096_i32 : BitVec 32 := 4096#32
  let v133 : BitVec 32 := Scalar.addi v132 c4096_i32
  let v136 : Index := Scalar.indexCast v133
  let c0_212 : Index := 0#32
  ![v136.toNat, 0]
@[reducible] def k0_t20_loop : Scf.Loop 32 :=
  let c0_i32_97 : BitVec 32 := 0#32
  let c32_i32_98 : BitVec 32 := 32#32
  let v83 : BitVec 32 := Scalar.addi c0_i32_97 c32_i32_98
  let c1_i32_99 : BitVec 32 := 1#32
  ⟨c0_i32_97, v83, c1_i32_99⟩
def k0_off38 (k0_t20 : Fin k0_t20_loop.trips) : Fin 2 → Nat :=
  let c0_i32_97 : BitVec 32 := 0#32
  let c1_i32_99 : BitVec 32 := 1#32
  let arg7 : BitVec 32 := Scf.iv c0_i32_97 c1_i32_99 k0_t20
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c4_i32_203 : BitVec 32 := 4#32
  let c0_i32_206 : BitVec 32 := 0#32
  let v117 : BitVec 1 := Scalar.cmpi .sgt c4_i32_203 c0_i32_206
  let v118 : BitVec 32 := Scalar.extui v117
  let c0_i32_207 : BitVec 32 := 0#32
  let v119 : BitVec 1 := Scalar.cmpi .slt c4_i32_203 c0_i32_207
  let v120 : BitVec 32 := Scalar.extui v119
  let v121 : BitVec 32 := Scalar.subi v118 v120
  let v122 : BitVec 1 := Scalar.cmpi .ne v116 v121
  let v123 : BitVec 32 := Scalar.remsi arg7 c4_i32_203
  let c0_i32_208 : BitVec 32 := 0#32
  let v124 : BitVec 1 := Scalar.cmpi .ne v123 c0_i32_208
  let v125 : BitVec 1 := Scalar.andi v122 v124
  let v111 : BitVec 32 := Scalar.divsi arg7 c4_i32_203
  let c1_i32_209 : BitVec 32 := 1#32
  let v126 : BitVec 32 := Scalar.subi v111 c1_i32_209
  let v127 : BitVec 32 := Scalar.select v125 v126 v111
  let c4096_i32 : BitVec 32 := 4096#32
  let v130 : BitVec 32 := Scalar.muli v127 c4096_i32
  let c4_i32_210 : BitVec 32 := 4#32
  let v128 : BitVec 32 := Scalar.muli v127 c4_i32_210
  let v129 : BitVec 32 := Scalar.subi arg7 v128
  let c512_i32 : BitVec 32 := 512#32
  let v131 : BitVec 32 := Scalar.muli v129 c512_i32
  let v132 : BitVec 32 := Scalar.addi v130 v131
  let v134 : Index := Scalar.indexCast v132
  let c0_211 : Index := 0#32
  ![v134.toNat, 0]
def k0_off39 (k0_t20 : Fin k0_t20_loop.trips) : Fin 2 → Nat :=
  let c0_i32_97 : BitVec 32 := 0#32
  let c1_i32_99 : BitVec 32 := 1#32
  let arg7 : BitVec 32 := Scf.iv c0_i32_97 c1_i32_99 k0_t20
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c4_i32_203 : BitVec 32 := 4#32
  let c0_i32_206 : BitVec 32 := 0#32
  let v117 : BitVec 1 := Scalar.cmpi .sgt c4_i32_203 c0_i32_206
  let v118 : BitVec 32 := Scalar.extui v117
  let c0_i32_207 : BitVec 32 := 0#32
  let v119 : BitVec 1 := Scalar.cmpi .slt c4_i32_203 c0_i32_207
  let v120 : BitVec 32 := Scalar.extui v119
  let v121 : BitVec 32 := Scalar.subi v118 v120
  let v122 : BitVec 1 := Scalar.cmpi .ne v116 v121
  let v123 : BitVec 32 := Scalar.remsi arg7 c4_i32_203
  let c0_i32_208 : BitVec 32 := 0#32
  let v124 : BitVec 1 := Scalar.cmpi .ne v123 c0_i32_208
  let v125 : BitVec 1 := Scalar.andi v122 v124
  let v111 : BitVec 32 := Scalar.divsi arg7 c4_i32_203
  let c1_i32_209 : BitVec 32 := 1#32
  let v126 : BitVec 32 := Scalar.subi v111 c1_i32_209
  let v127 : BitVec 32 := Scalar.select v125 v126 v111
  let c4096_i32 : BitVec 32 := 4096#32
  let v130 : BitVec 32 := Scalar.muli v127 c4096_i32
  let c4_i32_210 : BitVec 32 := 4#32
  let v128 : BitVec 32 := Scalar.muli v127 c4_i32_210
  let v129 : BitVec 32 := Scalar.subi arg7 v128
  let c512_i32 : BitVec 32 := 512#32
  let v131 : BitVec 32 := Scalar.muli v129 c512_i32
  let v132 : BitVec 32 := Scalar.addi v130 v131
  let c2048_i32 : BitVec 32 := 2048#32
  let v133 : BitVec 32 := Scalar.addi v132 c2048_i32
  let v136 : Index := Scalar.indexCast v133
  let c0_212 : Index := 0#32
  ![v136.toNat, 0]
@[reducible] def k0_t21_loop : Scf.Loop 32 :=
  let c0_i32_101 : BitVec 32 := 0#32
  let c32_i32_102 : BitVec 32 := 32#32
  let v84 : BitVec 32 := Scalar.addi c0_i32_101 c32_i32_102
  let c1_i32_103 : BitVec 32 := 1#32
  ⟨c0_i32_101, v84, c1_i32_103⟩
def k0_off40 (k0_t21 : Fin k0_t21_loop.trips) : Fin 2 → Nat :=
  let c0_i32_101 : BitVec 32 := 0#32
  let c1_i32_103 : BitVec 32 := 1#32
  let arg7 : BitVec 32 := Scf.iv c0_i32_101 c1_i32_103 k0_t21
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c2_i32_203 : BitVec 32 := 2#32
  let c0_i32_206 : BitVec 32 := 0#32
  let v117 : BitVec 1 := Scalar.cmpi .sgt c2_i32_203 c0_i32_206
  let v118 : BitVec 32 := Scalar.extui v117
  let c0_i32_207 : BitVec 32 := 0#32
  let v119 : BitVec 1 := Scalar.cmpi .slt c2_i32_203 c0_i32_207
  let v120 : BitVec 32 := Scalar.extui v119
  let v121 : BitVec 32 := Scalar.subi v118 v120
  let v122 : BitVec 1 := Scalar.cmpi .ne v116 v121
  let v123 : BitVec 32 := Scalar.remsi arg7 c2_i32_203
  let c0_i32_208 : BitVec 32 := 0#32
  let v124 : BitVec 1 := Scalar.cmpi .ne v123 c0_i32_208
  let v125 : BitVec 1 := Scalar.andi v122 v124
  let v111 : BitVec 32 := Scalar.divsi arg7 c2_i32_203
  let c1_i32_209 : BitVec 32 := 1#32
  let v126 : BitVec 32 := Scalar.subi v111 c1_i32_209
  let v127 : BitVec 32 := Scalar.select v125 v126 v111
  let c2048_i32 : BitVec 32 := 2048#32
  let v130 : BitVec 32 := Scalar.muli v127 c2048_i32
  let c2_i32_210 : BitVec 32 := 2#32
  let v128 : BitVec 32 := Scalar.muli v127 c2_i32_210
  let v129 : BitVec 32 := Scalar.subi arg7 v128
  let c512_i32 : BitVec 32 := 512#32
  let v131 : BitVec 32 := Scalar.muli v129 c512_i32
  let v132 : BitVec 32 := Scalar.addi v130 v131
  let v134 : Index := Scalar.indexCast v132
  let c0_211 : Index := 0#32
  ![v134.toNat, 0]
def k0_off41 (k0_t21 : Fin k0_t21_loop.trips) : Fin 2 → Nat :=
  let c0_i32_101 : BitVec 32 := 0#32
  let c1_i32_103 : BitVec 32 := 1#32
  let arg7 : BitVec 32 := Scf.iv c0_i32_101 c1_i32_103 k0_t21
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c2_i32_203 : BitVec 32 := 2#32
  let c0_i32_206 : BitVec 32 := 0#32
  let v117 : BitVec 1 := Scalar.cmpi .sgt c2_i32_203 c0_i32_206
  let v118 : BitVec 32 := Scalar.extui v117
  let c0_i32_207 : BitVec 32 := 0#32
  let v119 : BitVec 1 := Scalar.cmpi .slt c2_i32_203 c0_i32_207
  let v120 : BitVec 32 := Scalar.extui v119
  let v121 : BitVec 32 := Scalar.subi v118 v120
  let v122 : BitVec 1 := Scalar.cmpi .ne v116 v121
  let v123 : BitVec 32 := Scalar.remsi arg7 c2_i32_203
  let c0_i32_208 : BitVec 32 := 0#32
  let v124 : BitVec 1 := Scalar.cmpi .ne v123 c0_i32_208
  let v125 : BitVec 1 := Scalar.andi v122 v124
  let v111 : BitVec 32 := Scalar.divsi arg7 c2_i32_203
  let c1_i32_209 : BitVec 32 := 1#32
  let v126 : BitVec 32 := Scalar.subi v111 c1_i32_209
  let v127 : BitVec 32 := Scalar.select v125 v126 v111
  let c2048_i32 : BitVec 32 := 2048#32
  let v130 : BitVec 32 := Scalar.muli v127 c2048_i32
  let c2_i32_210 : BitVec 32 := 2#32
  let v128 : BitVec 32 := Scalar.muli v127 c2_i32_210
  let v129 : BitVec 32 := Scalar.subi arg7 v128
  let c512_i32 : BitVec 32 := 512#32
  let v131 : BitVec 32 := Scalar.muli v129 c512_i32
  let v132 : BitVec 32 := Scalar.addi v130 v131
  let c1024_i32 : BitVec 32 := 1024#32
  let v133 : BitVec 32 := Scalar.addi v132 c1024_i32
  let v136 : Index := Scalar.indexCast v133
  let c0_212 : Index := 0#32
  ![v136.toNat, 0]
@[reducible] def k0_t22_loop : Scf.Loop 32 :=
  let c0_i32_105 : BitVec 32 := 0#32
  let c32_i32_106 : BitVec 32 := 32#32
  let v85 : BitVec 32 := Scalar.addi c0_i32_105 c32_i32_106
  let c1_i32_107 : BitVec 32 := 1#32
  ⟨c0_i32_105, v85, c1_i32_107⟩
def k0_off42 (k0_t22 : Fin k0_t22_loop.trips) : Fin 2 → Nat :=
  let c2_i32_203 : BitVec 32 := 2#32
  let c0_i32_105 : BitVec 32 := 0#32
  let c1_i32_107 : BitVec 32 := 1#32
  let arg7 : BitVec 32 := Scf.iv c0_i32_105 c1_i32_107 k0_t22
  let v111 : BitVec 32 := Scalar.muli c2_i32_203 arg7
  let c512_i32 : BitVec 32 := 512#32
  let v112 : BitVec 32 := Scalar.muli v111 c512_i32
  let v118 : Index := Scalar.indexCast v112
  let c0_209 : Index := 0#32
  ![v118.toNat, 0]
def k0_off43 (k0_t22 : Fin k0_t22_loop.trips) : Fin 2 → Nat :=
  let c2_i32_203 : BitVec 32 := 2#32
  let c0_i32_105 : BitVec 32 := 0#32
  let c1_i32_107 : BitVec 32 := 1#32
  let arg7 : BitVec 32 := Scf.iv c0_i32_105 c1_i32_107 k0_t22
  let v111 : BitVec 32 := Scalar.muli c2_i32_203 arg7
  let c512_i32 : BitVec 32 := 512#32
  let v112 : BitVec 32 := Scalar.muli v111 c512_i32
  let c512_i32_204 : BitVec 32 := 512#32
  let v113 : BitVec 32 := Scalar.addi v112 c512_i32_204
  let v122 : Index := Scalar.indexCast v113
  let c0_210 : Index := 0#32
  ![v122.toNat, 0]
@[reducible] def k0_t23_loop : Scf.Loop 32 :=
  let c0_i32_109 : BitVec 32 := 0#32
  let c64_i32_110 : BitVec 32 := 64#32
  let v86 : BitVec 32 := Scalar.addi c0_i32_109 c64_i32_110
  let c1_i32_111 : BitVec 32 := 1#32
  ⟨c0_i32_109, v86, c1_i32_111⟩
def k0_off44 (k0_t23 : Fin k0_t23_loop.trips) : Fin 2 → Nat :=
  let c0_i32_109 : BitVec 32 := 0#32
  let c1_i32_111 : BitVec 32 := 1#32
  let arg7 : BitVec 32 := Scf.iv c0_i32_109 c1_i32_111 k0_t23
  let c512_i32 : BitVec 32 := 512#32
  let v111 : BitVec 32 := Scalar.muli arg7 c512_i32
  let v112 : Index := Scalar.indexCast v111
  let c0_203 : Index := 0#32
  ![v112.toNat, 0]
@[reducible] def k0_t24_loop : Scf.Loop 32 :=
  let c0_i32_113 : BitVec 32 := 0#32
  let c32_i32_114 : BitVec 32 := 32#32
  let v87 : BitVec 32 := Scalar.addi c0_i32_113 c32_i32_114
  let c1_i32_115 : BitVec 32 := 1#32
  ⟨c0_i32_113, v87, c1_i32_115⟩
def k0_off45 (k0_t24 : Fin k0_t24_loop.trips) : Fin 2 → Nat :=
  let c2_i32_203 : BitVec 32 := 2#32
  let c0_i32_113 : BitVec 32 := 0#32
  let c1_i32_115 : BitVec 32 := 1#32
  let arg7 : BitVec 32 := Scf.iv c0_i32_113 c1_i32_115 k0_t24
  let v111 : BitVec 32 := Scalar.muli c2_i32_203 arg7
  let c512_i32 : BitVec 32 := 512#32
  let v112 : BitVec 32 := Scalar.muli v111 c512_i32
  let v118 : Index := Scalar.indexCast v112
  let c0_210 : Index := 0#32
  ![v118.toNat, 0]
def k0_off46 (k0_t24 : Fin k0_t24_loop.trips) : Fin 2 → Nat :=
  let c2_i32_203 : BitVec 32 := 2#32
  let c0_i32_113 : BitVec 32 := 0#32
  let c1_i32_115 : BitVec 32 := 1#32
  let arg7 : BitVec 32 := Scf.iv c0_i32_113 c1_i32_115 k0_t24
  let v111 : BitVec 32 := Scalar.muli c2_i32_203 arg7
  let c512_i32 : BitVec 32 := 512#32
  let v112 : BitVec 32 := Scalar.muli v111 c512_i32
  let c512_i32_204 : BitVec 32 := 512#32
  let v113 : BitVec 32 := Scalar.addi v112 c512_i32_204
  let v122 : Index := Scalar.indexCast v113
  let c0_211 : Index := 0#32
  ![v122.toNat, 0]
@[reducible] def k0_t25_loop : Scf.Loop 32 :=
  let c0_i32_117 : BitVec 32 := 0#32
  let c32_i32_118 : BitVec 32 := 32#32
  let v88 : BitVec 32 := Scalar.addi c0_i32_117 c32_i32_118
  let c1_i32_119 : BitVec 32 := 1#32
  ⟨c0_i32_117, v88, c1_i32_119⟩
def k0_off47 (k0_t25 : Fin k0_t25_loop.trips) : Fin 2 → Nat :=
  let c0_i32_117 : BitVec 32 := 0#32
  let c1_i32_119 : BitVec 32 := 1#32
  let arg7 : BitVec 32 := Scf.iv c0_i32_117 c1_i32_119 k0_t25
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c2_i32_203 : BitVec 32 := 2#32
  let c0_i32_206 : BitVec 32 := 0#32
  let v117 : BitVec 1 := Scalar.cmpi .sgt c2_i32_203 c0_i32_206
  let v118 : BitVec 32 := Scalar.extui v117
  let c0_i32_207 : BitVec 32 := 0#32
  let v119 : BitVec 1 := Scalar.cmpi .slt c2_i32_203 c0_i32_207
  let v120 : BitVec 32 := Scalar.extui v119
  let v121 : BitVec 32 := Scalar.subi v118 v120
  let v122 : BitVec 1 := Scalar.cmpi .ne v116 v121
  let v123 : BitVec 32 := Scalar.remsi arg7 c2_i32_203
  let c0_i32_208 : BitVec 32 := 0#32
  let v124 : BitVec 1 := Scalar.cmpi .ne v123 c0_i32_208
  let v125 : BitVec 1 := Scalar.andi v122 v124
  let v111 : BitVec 32 := Scalar.divsi arg7 c2_i32_203
  let c1_i32_209 : BitVec 32 := 1#32
  let v126 : BitVec 32 := Scalar.subi v111 c1_i32_209
  let v127 : BitVec 32 := Scalar.select v125 v126 v111
  let c2048_i32 : BitVec 32 := 2048#32
  let v130 : BitVec 32 := Scalar.muli v127 c2048_i32
  let c2_i32_210 : BitVec 32 := 2#32
  let v128 : BitVec 32 := Scalar.muli v127 c2_i32_210
  let v129 : BitVec 32 := Scalar.subi arg7 v128
  let c512_i32 : BitVec 32 := 512#32
  let v131 : BitVec 32 := Scalar.muli v129 c512_i32
  let v132 : BitVec 32 := Scalar.addi v130 v131
  let v134 : Index := Scalar.indexCast v132
  let c0_211 : Index := 0#32
  ![v134.toNat, 0]
def k0_off48 (k0_t25 : Fin k0_t25_loop.trips) : Fin 2 → Nat :=
  let c0_i32_117 : BitVec 32 := 0#32
  let c1_i32_119 : BitVec 32 := 1#32
  let arg7 : BitVec 32 := Scf.iv c0_i32_117 c1_i32_119 k0_t25
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c2_i32_203 : BitVec 32 := 2#32
  let c0_i32_206 : BitVec 32 := 0#32
  let v117 : BitVec 1 := Scalar.cmpi .sgt c2_i32_203 c0_i32_206
  let v118 : BitVec 32 := Scalar.extui v117
  let c0_i32_207 : BitVec 32 := 0#32
  let v119 : BitVec 1 := Scalar.cmpi .slt c2_i32_203 c0_i32_207
  let v120 : BitVec 32 := Scalar.extui v119
  let v121 : BitVec 32 := Scalar.subi v118 v120
  let v122 : BitVec 1 := Scalar.cmpi .ne v116 v121
  let v123 : BitVec 32 := Scalar.remsi arg7 c2_i32_203
  let c0_i32_208 : BitVec 32 := 0#32
  let v124 : BitVec 1 := Scalar.cmpi .ne v123 c0_i32_208
  let v125 : BitVec 1 := Scalar.andi v122 v124
  let v111 : BitVec 32 := Scalar.divsi arg7 c2_i32_203
  let c1_i32_209 : BitVec 32 := 1#32
  let v126 : BitVec 32 := Scalar.subi v111 c1_i32_209
  let v127 : BitVec 32 := Scalar.select v125 v126 v111
  let c2048_i32 : BitVec 32 := 2048#32
  let v130 : BitVec 32 := Scalar.muli v127 c2048_i32
  let c2_i32_210 : BitVec 32 := 2#32
  let v128 : BitVec 32 := Scalar.muli v127 c2_i32_210
  let v129 : BitVec 32 := Scalar.subi arg7 v128
  let c512_i32 : BitVec 32 := 512#32
  let v131 : BitVec 32 := Scalar.muli v129 c512_i32
  let v132 : BitVec 32 := Scalar.addi v130 v131
  let c1024_i32 : BitVec 32 := 1024#32
  let v133 : BitVec 32 := Scalar.addi v132 c1024_i32
  let v136 : Index := Scalar.indexCast v133
  let c0_212 : Index := 0#32
  ![v136.toNat, 0]
@[reducible] def k0_t26_loop : Scf.Loop 32 :=
  let c0_i32_121 : BitVec 32 := 0#32
  let c32_i32_122 : BitVec 32 := 32#32
  let v89 : BitVec 32 := Scalar.addi c0_i32_121 c32_i32_122
  let c1_i32_123 : BitVec 32 := 1#32
  ⟨c0_i32_121, v89, c1_i32_123⟩
def k0_off49 (k0_t26 : Fin k0_t26_loop.trips) : Fin 2 → Nat :=
  let c2_i32_203 : BitVec 32 := 2#32
  let c0_i32_121 : BitVec 32 := 0#32
  let c1_i32_123 : BitVec 32 := 1#32
  let arg7 : BitVec 32 := Scf.iv c0_i32_121 c1_i32_123 k0_t26
  let v111 : BitVec 32 := Scalar.muli c2_i32_203 arg7
  let c512_i32 : BitVec 32 := 512#32
  let v112 : BitVec 32 := Scalar.muli v111 c512_i32
  let v118 : Index := Scalar.indexCast v112
  let c0_210 : Index := 0#32
  ![v118.toNat, 0]
def k0_off50 (k0_t26 : Fin k0_t26_loop.trips) : Fin 2 → Nat :=
  let c2_i32_203 : BitVec 32 := 2#32
  let c0_i32_121 : BitVec 32 := 0#32
  let c1_i32_123 : BitVec 32 := 1#32
  let arg7 : BitVec 32 := Scf.iv c0_i32_121 c1_i32_123 k0_t26
  let v111 : BitVec 32 := Scalar.muli c2_i32_203 arg7
  let c512_i32 : BitVec 32 := 512#32
  let v112 : BitVec 32 := Scalar.muli v111 c512_i32
  let c512_i32_204 : BitVec 32 := 512#32
  let v113 : BitVec 32 := Scalar.addi v112 c512_i32_204
  let v122 : Index := Scalar.indexCast v113
  let c0_211 : Index := 0#32
  ![v122.toNat, 0]
@[reducible] def k0_t27_loop : Scf.Loop 32 :=
  let c0_i32_125 : BitVec 32 := 0#32
  let c32_i32_126 : BitVec 32 := 32#32
  let v90 : BitVec 32 := Scalar.addi c0_i32_125 c32_i32_126
  let c1_i32_127 : BitVec 32 := 1#32
  ⟨c0_i32_125, v90, c1_i32_127⟩
def k0_off51 (k0_t27 : Fin k0_t27_loop.trips) : Fin 2 → Nat :=
  let c0_i32_125 : BitVec 32 := 0#32
  let c1_i32_127 : BitVec 32 := 1#32
  let arg7 : BitVec 32 := Scf.iv c0_i32_125 c1_i32_127 k0_t27
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c4_i32_203 : BitVec 32 := 4#32
  let c0_i32_206 : BitVec 32 := 0#32
  let v117 : BitVec 1 := Scalar.cmpi .sgt c4_i32_203 c0_i32_206
  let v118 : BitVec 32 := Scalar.extui v117
  let c0_i32_207 : BitVec 32 := 0#32
  let v119 : BitVec 1 := Scalar.cmpi .slt c4_i32_203 c0_i32_207
  let v120 : BitVec 32 := Scalar.extui v119
  let v121 : BitVec 32 := Scalar.subi v118 v120
  let v122 : BitVec 1 := Scalar.cmpi .ne v116 v121
  let v123 : BitVec 32 := Scalar.remsi arg7 c4_i32_203
  let c0_i32_208 : BitVec 32 := 0#32
  let v124 : BitVec 1 := Scalar.cmpi .ne v123 c0_i32_208
  let v125 : BitVec 1 := Scalar.andi v122 v124
  let v111 : BitVec 32 := Scalar.divsi arg7 c4_i32_203
  let c1_i32_209 : BitVec 32 := 1#32
  let v126 : BitVec 32 := Scalar.subi v111 c1_i32_209
  let v127 : BitVec 32 := Scalar.select v125 v126 v111
  let c4096_i32 : BitVec 32 := 4096#32
  let v130 : BitVec 32 := Scalar.muli v127 c4096_i32
  let c4_i32_210 : BitVec 32 := 4#32
  let v128 : BitVec 32 := Scalar.muli v127 c4_i32_210
  let v129 : BitVec 32 := Scalar.subi arg7 v128
  let c512_i32 : BitVec 32 := 512#32
  let v131 : BitVec 32 := Scalar.muli v129 c512_i32
  let v132 : BitVec 32 := Scalar.addi v130 v131
  let v134 : Index := Scalar.indexCast v132
  let c0_211 : Index := 0#32
  ![v134.toNat, 0]
def k0_off52 (k0_t27 : Fin k0_t27_loop.trips) : Fin 2 → Nat :=
  let c0_i32_125 : BitVec 32 := 0#32
  let c1_i32_127 : BitVec 32 := 1#32
  let arg7 : BitVec 32 := Scf.iv c0_i32_125 c1_i32_127 k0_t27
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c4_i32_203 : BitVec 32 := 4#32
  let c0_i32_206 : BitVec 32 := 0#32
  let v117 : BitVec 1 := Scalar.cmpi .sgt c4_i32_203 c0_i32_206
  let v118 : BitVec 32 := Scalar.extui v117
  let c0_i32_207 : BitVec 32 := 0#32
  let v119 : BitVec 1 := Scalar.cmpi .slt c4_i32_203 c0_i32_207
  let v120 : BitVec 32 := Scalar.extui v119
  let v121 : BitVec 32 := Scalar.subi v118 v120
  let v122 : BitVec 1 := Scalar.cmpi .ne v116 v121
  let v123 : BitVec 32 := Scalar.remsi arg7 c4_i32_203
  let c0_i32_208 : BitVec 32 := 0#32
  let v124 : BitVec 1 := Scalar.cmpi .ne v123 c0_i32_208
  let v125 : BitVec 1 := Scalar.andi v122 v124
  let v111 : BitVec 32 := Scalar.divsi arg7 c4_i32_203
  let c1_i32_209 : BitVec 32 := 1#32
  let v126 : BitVec 32 := Scalar.subi v111 c1_i32_209
  let v127 : BitVec 32 := Scalar.select v125 v126 v111
  let c4096_i32 : BitVec 32 := 4096#32
  let v130 : BitVec 32 := Scalar.muli v127 c4096_i32
  let c4_i32_210 : BitVec 32 := 4#32
  let v128 : BitVec 32 := Scalar.muli v127 c4_i32_210
  let v129 : BitVec 32 := Scalar.subi arg7 v128
  let c512_i32 : BitVec 32 := 512#32
  let v131 : BitVec 32 := Scalar.muli v129 c512_i32
  let v132 : BitVec 32 := Scalar.addi v130 v131
  let c2048_i32 : BitVec 32 := 2048#32
  let v133 : BitVec 32 := Scalar.addi v132 c2048_i32
  let v136 : Index := Scalar.indexCast v133
  let c0_212 : Index := 0#32
  ![v136.toNat, 0]
@[reducible] def k0_t28_loop : Scf.Loop 32 :=
  let c0_i32_129 : BitVec 32 := 0#32
  let c32_i32_130 : BitVec 32 := 32#32
  let v91 : BitVec 32 := Scalar.addi c0_i32_129 c32_i32_130
  let c1_i32_131 : BitVec 32 := 1#32
  ⟨c0_i32_129, v91, c1_i32_131⟩
def k0_off53 (k0_t28 : Fin k0_t28_loop.trips) : Fin 2 → Nat :=
  let c0_i32_129 : BitVec 32 := 0#32
  let c1_i32_131 : BitVec 32 := 1#32
  let arg7 : BitVec 32 := Scf.iv c0_i32_129 c1_i32_131 k0_t28
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c2_i32_203 : BitVec 32 := 2#32
  let c0_i32_206 : BitVec 32 := 0#32
  let v117 : BitVec 1 := Scalar.cmpi .sgt c2_i32_203 c0_i32_206
  let v118 : BitVec 32 := Scalar.extui v117
  let c0_i32_207 : BitVec 32 := 0#32
  let v119 : BitVec 1 := Scalar.cmpi .slt c2_i32_203 c0_i32_207
  let v120 : BitVec 32 := Scalar.extui v119
  let v121 : BitVec 32 := Scalar.subi v118 v120
  let v122 : BitVec 1 := Scalar.cmpi .ne v116 v121
  let v123 : BitVec 32 := Scalar.remsi arg7 c2_i32_203
  let c0_i32_208 : BitVec 32 := 0#32
  let v124 : BitVec 1 := Scalar.cmpi .ne v123 c0_i32_208
  let v125 : BitVec 1 := Scalar.andi v122 v124
  let v111 : BitVec 32 := Scalar.divsi arg7 c2_i32_203
  let c1_i32_209 : BitVec 32 := 1#32
  let v126 : BitVec 32 := Scalar.subi v111 c1_i32_209
  let v127 : BitVec 32 := Scalar.select v125 v126 v111
  let c2048_i32 : BitVec 32 := 2048#32
  let v130 : BitVec 32 := Scalar.muli v127 c2048_i32
  let c2_i32_210 : BitVec 32 := 2#32
  let v128 : BitVec 32 := Scalar.muli v127 c2_i32_210
  let v129 : BitVec 32 := Scalar.subi arg7 v128
  let c512_i32 : BitVec 32 := 512#32
  let v131 : BitVec 32 := Scalar.muli v129 c512_i32
  let v132 : BitVec 32 := Scalar.addi v130 v131
  let v134 : Index := Scalar.indexCast v132
  let c0_211 : Index := 0#32
  ![v134.toNat, 0]
def k0_off54 (k0_t28 : Fin k0_t28_loop.trips) : Fin 2 → Nat :=
  let c0_i32_129 : BitVec 32 := 0#32
  let c1_i32_131 : BitVec 32 := 1#32
  let arg7 : BitVec 32 := Scf.iv c0_i32_129 c1_i32_131 k0_t28
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c2_i32_203 : BitVec 32 := 2#32
  let c0_i32_206 : BitVec 32 := 0#32
  let v117 : BitVec 1 := Scalar.cmpi .sgt c2_i32_203 c0_i32_206
  let v118 : BitVec 32 := Scalar.extui v117
  let c0_i32_207 : BitVec 32 := 0#32
  let v119 : BitVec 1 := Scalar.cmpi .slt c2_i32_203 c0_i32_207
  let v120 : BitVec 32 := Scalar.extui v119
  let v121 : BitVec 32 := Scalar.subi v118 v120
  let v122 : BitVec 1 := Scalar.cmpi .ne v116 v121
  let v123 : BitVec 32 := Scalar.remsi arg7 c2_i32_203
  let c0_i32_208 : BitVec 32 := 0#32
  let v124 : BitVec 1 := Scalar.cmpi .ne v123 c0_i32_208
  let v125 : BitVec 1 := Scalar.andi v122 v124
  let v111 : BitVec 32 := Scalar.divsi arg7 c2_i32_203
  let c1_i32_209 : BitVec 32 := 1#32
  let v126 : BitVec 32 := Scalar.subi v111 c1_i32_209
  let v127 : BitVec 32 := Scalar.select v125 v126 v111
  let c2048_i32 : BitVec 32 := 2048#32
  let v130 : BitVec 32 := Scalar.muli v127 c2048_i32
  let c2_i32_210 : BitVec 32 := 2#32
  let v128 : BitVec 32 := Scalar.muli v127 c2_i32_210
  let v129 : BitVec 32 := Scalar.subi arg7 v128
  let c512_i32 : BitVec 32 := 512#32
  let v131 : BitVec 32 := Scalar.muli v129 c512_i32
  let v132 : BitVec 32 := Scalar.addi v130 v131
  let c1024_i32 : BitVec 32 := 1024#32
  let v133 : BitVec 32 := Scalar.addi v132 c1024_i32
  let v136 : Index := Scalar.indexCast v133
  let c0_212 : Index := 0#32
  ![v136.toNat, 0]
@[reducible] def k0_t29_loop : Scf.Loop 32 :=
  let c0_i32_133 : BitVec 32 := 0#32
  let c32_i32_134 : BitVec 32 := 32#32
  let v92 : BitVec 32 := Scalar.addi c0_i32_133 c32_i32_134
  let c1_i32_135 : BitVec 32 := 1#32
  ⟨c0_i32_133, v92, c1_i32_135⟩
def k0_off55 (k0_t29 : Fin k0_t29_loop.trips) : Fin 2 → Nat :=
  let c2_i32_203 : BitVec 32 := 2#32
  let c0_i32_133 : BitVec 32 := 0#32
  let c1_i32_135 : BitVec 32 := 1#32
  let arg7 : BitVec 32 := Scf.iv c0_i32_133 c1_i32_135 k0_t29
  let v111 : BitVec 32 := Scalar.muli c2_i32_203 arg7
  let c512_i32 : BitVec 32 := 512#32
  let v112 : BitVec 32 := Scalar.muli v111 c512_i32
  let v118 : Index := Scalar.indexCast v112
  let c0_210 : Index := 0#32
  ![v118.toNat, 0]
def k0_off56 (k0_t29 : Fin k0_t29_loop.trips) : Fin 2 → Nat :=
  let c2_i32_203 : BitVec 32 := 2#32
  let c0_i32_133 : BitVec 32 := 0#32
  let c1_i32_135 : BitVec 32 := 1#32
  let arg7 : BitVec 32 := Scf.iv c0_i32_133 c1_i32_135 k0_t29
  let v111 : BitVec 32 := Scalar.muli c2_i32_203 arg7
  let c512_i32 : BitVec 32 := 512#32
  let v112 : BitVec 32 := Scalar.muli v111 c512_i32
  let c512_i32_204 : BitVec 32 := 512#32
  let v113 : BitVec 32 := Scalar.addi v112 c512_i32_204
  let v122 : Index := Scalar.indexCast v113
  let c0_211 : Index := 0#32
  ![v122.toNat, 0]
@[reducible] def k0_t30_loop : Scf.Loop 32 :=
  let c0_i32_137 : BitVec 32 := 0#32
  let c32_i32_138 : BitVec 32 := 32#32
  let v93 : BitVec 32 := Scalar.addi c0_i32_137 c32_i32_138
  let c1_i32_139 : BitVec 32 := 1#32
  ⟨c0_i32_137, v93, c1_i32_139⟩
def k0_off57 (k0_t30 : Fin k0_t30_loop.trips) : Fin 2 → Nat :=
  let c0_i32_137 : BitVec 32 := 0#32
  let c1_i32_139 : BitVec 32 := 1#32
  let arg7 : BitVec 32 := Scf.iv c0_i32_137 c1_i32_139 k0_t30
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c8_i32_203 : BitVec 32 := 8#32
  let c0_i32_206 : BitVec 32 := 0#32
  let v117 : BitVec 1 := Scalar.cmpi .sgt c8_i32_203 c0_i32_206
  let v118 : BitVec 32 := Scalar.extui v117
  let c0_i32_207 : BitVec 32 := 0#32
  let v119 : BitVec 1 := Scalar.cmpi .slt c8_i32_203 c0_i32_207
  let v120 : BitVec 32 := Scalar.extui v119
  let v121 : BitVec 32 := Scalar.subi v118 v120
  let v122 : BitVec 1 := Scalar.cmpi .ne v116 v121
  let v123 : BitVec 32 := Scalar.remsi arg7 c8_i32_203
  let c0_i32_208 : BitVec 32 := 0#32
  let v124 : BitVec 1 := Scalar.cmpi .ne v123 c0_i32_208
  let v125 : BitVec 1 := Scalar.andi v122 v124
  let v111 : BitVec 32 := Scalar.divsi arg7 c8_i32_203
  let c1_i32_209 : BitVec 32 := 1#32
  let v126 : BitVec 32 := Scalar.subi v111 c1_i32_209
  let v127 : BitVec 32 := Scalar.select v125 v126 v111
  let c8192_i32 : BitVec 32 := 8192#32
  let v130 : BitVec 32 := Scalar.muli v127 c8192_i32
  let c8_i32_210 : BitVec 32 := 8#32
  let v128 : BitVec 32 := Scalar.muli v127 c8_i32_210
  let v129 : BitVec 32 := Scalar.subi arg7 v128
  let c512_i32 : BitVec 32 := 512#32
  let v131 : BitVec 32 := Scalar.muli v129 c512_i32
  let v132 : BitVec 32 := Scalar.addi v130 v131
  let v134 : Index := Scalar.indexCast v132
  let c0_211 : Index := 0#32
  ![v134.toNat, 0]
def k0_off58 (k0_t30 : Fin k0_t30_loop.trips) : Fin 2 → Nat :=
  let c0_i32_137 : BitVec 32 := 0#32
  let c1_i32_139 : BitVec 32 := 1#32
  let arg7 : BitVec 32 := Scf.iv c0_i32_137 c1_i32_139 k0_t30
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c8_i32_203 : BitVec 32 := 8#32
  let c0_i32_206 : BitVec 32 := 0#32
  let v117 : BitVec 1 := Scalar.cmpi .sgt c8_i32_203 c0_i32_206
  let v118 : BitVec 32 := Scalar.extui v117
  let c0_i32_207 : BitVec 32 := 0#32
  let v119 : BitVec 1 := Scalar.cmpi .slt c8_i32_203 c0_i32_207
  let v120 : BitVec 32 := Scalar.extui v119
  let v121 : BitVec 32 := Scalar.subi v118 v120
  let v122 : BitVec 1 := Scalar.cmpi .ne v116 v121
  let v123 : BitVec 32 := Scalar.remsi arg7 c8_i32_203
  let c0_i32_208 : BitVec 32 := 0#32
  let v124 : BitVec 1 := Scalar.cmpi .ne v123 c0_i32_208
  let v125 : BitVec 1 := Scalar.andi v122 v124
  let v111 : BitVec 32 := Scalar.divsi arg7 c8_i32_203
  let c1_i32_209 : BitVec 32 := 1#32
  let v126 : BitVec 32 := Scalar.subi v111 c1_i32_209
  let v127 : BitVec 32 := Scalar.select v125 v126 v111
  let c8192_i32 : BitVec 32 := 8192#32
  let v130 : BitVec 32 := Scalar.muli v127 c8192_i32
  let c8_i32_210 : BitVec 32 := 8#32
  let v128 : BitVec 32 := Scalar.muli v127 c8_i32_210
  let v129 : BitVec 32 := Scalar.subi arg7 v128
  let c512_i32 : BitVec 32 := 512#32
  let v131 : BitVec 32 := Scalar.muli v129 c512_i32
  let v132 : BitVec 32 := Scalar.addi v130 v131
  let c4096_i32 : BitVec 32 := 4096#32
  let v133 : BitVec 32 := Scalar.addi v132 c4096_i32
  let v136 : Index := Scalar.indexCast v133
  let c0_212 : Index := 0#32
  ![v136.toNat, 0]
@[reducible] def k0_t31_loop : Scf.Loop 32 :=
  let c0_i32_141 : BitVec 32 := 0#32
  let c32_i32_142 : BitVec 32 := 32#32
  let v94 : BitVec 32 := Scalar.addi c0_i32_141 c32_i32_142
  let c1_i32_143 : BitVec 32 := 1#32
  ⟨c0_i32_141, v94, c1_i32_143⟩
def k0_off59 (k0_t31 : Fin k0_t31_loop.trips) : Fin 2 → Nat :=
  let c0_i32_141 : BitVec 32 := 0#32
  let c1_i32_143 : BitVec 32 := 1#32
  let arg7 : BitVec 32 := Scf.iv c0_i32_141 c1_i32_143 k0_t31
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c4_i32_203 : BitVec 32 := 4#32
  let c0_i32_206 : BitVec 32 := 0#32
  let v117 : BitVec 1 := Scalar.cmpi .sgt c4_i32_203 c0_i32_206
  let v118 : BitVec 32 := Scalar.extui v117
  let c0_i32_207 : BitVec 32 := 0#32
  let v119 : BitVec 1 := Scalar.cmpi .slt c4_i32_203 c0_i32_207
  let v120 : BitVec 32 := Scalar.extui v119
  let v121 : BitVec 32 := Scalar.subi v118 v120
  let v122 : BitVec 1 := Scalar.cmpi .ne v116 v121
  let v123 : BitVec 32 := Scalar.remsi arg7 c4_i32_203
  let c0_i32_208 : BitVec 32 := 0#32
  let v124 : BitVec 1 := Scalar.cmpi .ne v123 c0_i32_208
  let v125 : BitVec 1 := Scalar.andi v122 v124
  let v111 : BitVec 32 := Scalar.divsi arg7 c4_i32_203
  let c1_i32_209 : BitVec 32 := 1#32
  let v126 : BitVec 32 := Scalar.subi v111 c1_i32_209
  let v127 : BitVec 32 := Scalar.select v125 v126 v111
  let c4096_i32 : BitVec 32 := 4096#32
  let v130 : BitVec 32 := Scalar.muli v127 c4096_i32
  let c4_i32_210 : BitVec 32 := 4#32
  let v128 : BitVec 32 := Scalar.muli v127 c4_i32_210
  let v129 : BitVec 32 := Scalar.subi arg7 v128
  let c512_i32 : BitVec 32 := 512#32
  let v131 : BitVec 32 := Scalar.muli v129 c512_i32
  let v132 : BitVec 32 := Scalar.addi v130 v131
  let v134 : Index := Scalar.indexCast v132
  let c0_211 : Index := 0#32
  ![v134.toNat, 0]
def k0_off60 (k0_t31 : Fin k0_t31_loop.trips) : Fin 2 → Nat :=
  let c0_i32_141 : BitVec 32 := 0#32
  let c1_i32_143 : BitVec 32 := 1#32
  let arg7 : BitVec 32 := Scf.iv c0_i32_141 c1_i32_143 k0_t31
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c4_i32_203 : BitVec 32 := 4#32
  let c0_i32_206 : BitVec 32 := 0#32
  let v117 : BitVec 1 := Scalar.cmpi .sgt c4_i32_203 c0_i32_206
  let v118 : BitVec 32 := Scalar.extui v117
  let c0_i32_207 : BitVec 32 := 0#32
  let v119 : BitVec 1 := Scalar.cmpi .slt c4_i32_203 c0_i32_207
  let v120 : BitVec 32 := Scalar.extui v119
  let v121 : BitVec 32 := Scalar.subi v118 v120
  let v122 : BitVec 1 := Scalar.cmpi .ne v116 v121
  let v123 : BitVec 32 := Scalar.remsi arg7 c4_i32_203
  let c0_i32_208 : BitVec 32 := 0#32
  let v124 : BitVec 1 := Scalar.cmpi .ne v123 c0_i32_208
  let v125 : BitVec 1 := Scalar.andi v122 v124
  let v111 : BitVec 32 := Scalar.divsi arg7 c4_i32_203
  let c1_i32_209 : BitVec 32 := 1#32
  let v126 : BitVec 32 := Scalar.subi v111 c1_i32_209
  let v127 : BitVec 32 := Scalar.select v125 v126 v111
  let c4096_i32 : BitVec 32 := 4096#32
  let v130 : BitVec 32 := Scalar.muli v127 c4096_i32
  let c4_i32_210 : BitVec 32 := 4#32
  let v128 : BitVec 32 := Scalar.muli v127 c4_i32_210
  let v129 : BitVec 32 := Scalar.subi arg7 v128
  let c512_i32 : BitVec 32 := 512#32
  let v131 : BitVec 32 := Scalar.muli v129 c512_i32
  let v132 : BitVec 32 := Scalar.addi v130 v131
  let c2048_i32 : BitVec 32 := 2048#32
  let v133 : BitVec 32 := Scalar.addi v132 c2048_i32
  let v136 : Index := Scalar.indexCast v133
  let c0_212 : Index := 0#32
  ![v136.toNat, 0]
@[reducible] def k0_t32_loop : Scf.Loop 32 :=
  let c0_i32_145 : BitVec 32 := 0#32
  let c32_i32_146 : BitVec 32 := 32#32
  let v95 : BitVec 32 := Scalar.addi c0_i32_145 c32_i32_146
  let c1_i32_147 : BitVec 32 := 1#32
  ⟨c0_i32_145, v95, c1_i32_147⟩
def k0_off61 (k0_t32 : Fin k0_t32_loop.trips) : Fin 2 → Nat :=
  let c0_i32_145 : BitVec 32 := 0#32
  let c1_i32_147 : BitVec 32 := 1#32
  let arg7 : BitVec 32 := Scf.iv c0_i32_145 c1_i32_147 k0_t32
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c2_i32_203 : BitVec 32 := 2#32
  let c0_i32_206 : BitVec 32 := 0#32
  let v117 : BitVec 1 := Scalar.cmpi .sgt c2_i32_203 c0_i32_206
  let v118 : BitVec 32 := Scalar.extui v117
  let c0_i32_207 : BitVec 32 := 0#32
  let v119 : BitVec 1 := Scalar.cmpi .slt c2_i32_203 c0_i32_207
  let v120 : BitVec 32 := Scalar.extui v119
  let v121 : BitVec 32 := Scalar.subi v118 v120
  let v122 : BitVec 1 := Scalar.cmpi .ne v116 v121
  let v123 : BitVec 32 := Scalar.remsi arg7 c2_i32_203
  let c0_i32_208 : BitVec 32 := 0#32
  let v124 : BitVec 1 := Scalar.cmpi .ne v123 c0_i32_208
  let v125 : BitVec 1 := Scalar.andi v122 v124
  let v111 : BitVec 32 := Scalar.divsi arg7 c2_i32_203
  let c1_i32_209 : BitVec 32 := 1#32
  let v126 : BitVec 32 := Scalar.subi v111 c1_i32_209
  let v127 : BitVec 32 := Scalar.select v125 v126 v111
  let c2048_i32 : BitVec 32 := 2048#32
  let v130 : BitVec 32 := Scalar.muli v127 c2048_i32
  let c2_i32_210 : BitVec 32 := 2#32
  let v128 : BitVec 32 := Scalar.muli v127 c2_i32_210
  let v129 : BitVec 32 := Scalar.subi arg7 v128
  let c512_i32 : BitVec 32 := 512#32
  let v131 : BitVec 32 := Scalar.muli v129 c512_i32
  let v132 : BitVec 32 := Scalar.addi v130 v131
  let v134 : Index := Scalar.indexCast v132
  let c0_211 : Index := 0#32
  ![v134.toNat, 0]
def k0_off62 (k0_t32 : Fin k0_t32_loop.trips) : Fin 2 → Nat :=
  let c0_i32_145 : BitVec 32 := 0#32
  let c1_i32_147 : BitVec 32 := 1#32
  let arg7 : BitVec 32 := Scf.iv c0_i32_145 c1_i32_147 k0_t32
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c2_i32_203 : BitVec 32 := 2#32
  let c0_i32_206 : BitVec 32 := 0#32
  let v117 : BitVec 1 := Scalar.cmpi .sgt c2_i32_203 c0_i32_206
  let v118 : BitVec 32 := Scalar.extui v117
  let c0_i32_207 : BitVec 32 := 0#32
  let v119 : BitVec 1 := Scalar.cmpi .slt c2_i32_203 c0_i32_207
  let v120 : BitVec 32 := Scalar.extui v119
  let v121 : BitVec 32 := Scalar.subi v118 v120
  let v122 : BitVec 1 := Scalar.cmpi .ne v116 v121
  let v123 : BitVec 32 := Scalar.remsi arg7 c2_i32_203
  let c0_i32_208 : BitVec 32 := 0#32
  let v124 : BitVec 1 := Scalar.cmpi .ne v123 c0_i32_208
  let v125 : BitVec 1 := Scalar.andi v122 v124
  let v111 : BitVec 32 := Scalar.divsi arg7 c2_i32_203
  let c1_i32_209 : BitVec 32 := 1#32
  let v126 : BitVec 32 := Scalar.subi v111 c1_i32_209
  let v127 : BitVec 32 := Scalar.select v125 v126 v111
  let c2048_i32 : BitVec 32 := 2048#32
  let v130 : BitVec 32 := Scalar.muli v127 c2048_i32
  let c2_i32_210 : BitVec 32 := 2#32
  let v128 : BitVec 32 := Scalar.muli v127 c2_i32_210
  let v129 : BitVec 32 := Scalar.subi arg7 v128
  let c512_i32 : BitVec 32 := 512#32
  let v131 : BitVec 32 := Scalar.muli v129 c512_i32
  let v132 : BitVec 32 := Scalar.addi v130 v131
  let c1024_i32 : BitVec 32 := 1024#32
  let v133 : BitVec 32 := Scalar.addi v132 c1024_i32
  let v136 : Index := Scalar.indexCast v133
  let c0_212 : Index := 0#32
  ![v136.toNat, 0]
@[reducible] def k0_t33_loop : Scf.Loop 32 :=
  let c0_i32_149 : BitVec 32 := 0#32
  let c32_i32_150 : BitVec 32 := 32#32
  let v96 : BitVec 32 := Scalar.addi c0_i32_149 c32_i32_150
  let c1_i32_151 : BitVec 32 := 1#32
  ⟨c0_i32_149, v96, c1_i32_151⟩
def k0_off63 (k0_t33 : Fin k0_t33_loop.trips) : Fin 2 → Nat :=
  let c2_i32_203 : BitVec 32 := 2#32
  let c0_i32_149 : BitVec 32 := 0#32
  let c1_i32_151 : BitVec 32 := 1#32
  let arg7 : BitVec 32 := Scf.iv c0_i32_149 c1_i32_151 k0_t33
  let v111 : BitVec 32 := Scalar.muli c2_i32_203 arg7
  let c512_i32 : BitVec 32 := 512#32
  let v112 : BitVec 32 := Scalar.muli v111 c512_i32
  let v118 : Index := Scalar.indexCast v112
  let c0_209 : Index := 0#32
  ![v118.toNat, 0]
def k0_off64 (k0_t33 : Fin k0_t33_loop.trips) : Fin 2 → Nat :=
  let c2_i32_203 : BitVec 32 := 2#32
  let c0_i32_149 : BitVec 32 := 0#32
  let c1_i32_151 : BitVec 32 := 1#32
  let arg7 : BitVec 32 := Scf.iv c0_i32_149 c1_i32_151 k0_t33
  let v111 : BitVec 32 := Scalar.muli c2_i32_203 arg7
  let c512_i32 : BitVec 32 := 512#32
  let v112 : BitVec 32 := Scalar.muli v111 c512_i32
  let c512_i32_204 : BitVec 32 := 512#32
  let v113 : BitVec 32 := Scalar.addi v112 c512_i32_204
  let v122 : Index := Scalar.indexCast v113
  let c0_210 : Index := 0#32
  ![v122.toNat, 0]
@[reducible] def k0_t34_loop : Scf.Loop 32 :=
  let c0_i32_153 : BitVec 32 := 0#32
  let c32_i32_154 : BitVec 32 := 32#32
  let v97 : BitVec 32 := Scalar.addi c0_i32_153 c32_i32_154
  let c1_i32_155 : BitVec 32 := 1#32
  ⟨c0_i32_153, v97, c1_i32_155⟩
def k0_off65 (k0_t34 : Fin k0_t34_loop.trips) : Fin 2 → Nat :=
  let c0_i32_153 : BitVec 32 := 0#32
  let c1_i32_155 : BitVec 32 := 1#32
  let arg7 : BitVec 32 := Scf.iv c0_i32_153 c1_i32_155 k0_t34
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c16_i32_203 : BitVec 32 := 16#32
  let c0_i32_206 : BitVec 32 := 0#32
  let v117 : BitVec 1 := Scalar.cmpi .sgt c16_i32_203 c0_i32_206
  let v118 : BitVec 32 := Scalar.extui v117
  let c0_i32_207 : BitVec 32 := 0#32
  let v119 : BitVec 1 := Scalar.cmpi .slt c16_i32_203 c0_i32_207
  let v120 : BitVec 32 := Scalar.extui v119
  let v121 : BitVec 32 := Scalar.subi v118 v120
  let v122 : BitVec 1 := Scalar.cmpi .ne v116 v121
  let v123 : BitVec 32 := Scalar.remsi arg7 c16_i32_203
  let c0_i32_208 : BitVec 32 := 0#32
  let v124 : BitVec 1 := Scalar.cmpi .ne v123 c0_i32_208
  let v125 : BitVec 1 := Scalar.andi v122 v124
  let v111 : BitVec 32 := Scalar.divsi arg7 c16_i32_203
  let c1_i32_209 : BitVec 32 := 1#32
  let v126 : BitVec 32 := Scalar.subi v111 c1_i32_209
  let v127 : BitVec 32 := Scalar.select v125 v126 v111
  let c16384_i32 : BitVec 32 := 16384#32
  let v130 : BitVec 32 := Scalar.muli v127 c16384_i32
  let c16_i32_210 : BitVec 32 := 16#32
  let v128 : BitVec 32 := Scalar.muli v127 c16_i32_210
  let v129 : BitVec 32 := Scalar.subi arg7 v128
  let c512_i32 : BitVec 32 := 512#32
  let v131 : BitVec 32 := Scalar.muli v129 c512_i32
  let v132 : BitVec 32 := Scalar.addi v130 v131
  let v134 : Index := Scalar.indexCast v132
  let c0_211 : Index := 0#32
  ![v134.toNat, 0]
def k0_off66 (k0_t34 : Fin k0_t34_loop.trips) : Fin 2 → Nat :=
  let c0_i32_153 : BitVec 32 := 0#32
  let c1_i32_155 : BitVec 32 := 1#32
  let arg7 : BitVec 32 := Scf.iv c0_i32_153 c1_i32_155 k0_t34
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c16_i32_203 : BitVec 32 := 16#32
  let c0_i32_206 : BitVec 32 := 0#32
  let v117 : BitVec 1 := Scalar.cmpi .sgt c16_i32_203 c0_i32_206
  let v118 : BitVec 32 := Scalar.extui v117
  let c0_i32_207 : BitVec 32 := 0#32
  let v119 : BitVec 1 := Scalar.cmpi .slt c16_i32_203 c0_i32_207
  let v120 : BitVec 32 := Scalar.extui v119
  let v121 : BitVec 32 := Scalar.subi v118 v120
  let v122 : BitVec 1 := Scalar.cmpi .ne v116 v121
  let v123 : BitVec 32 := Scalar.remsi arg7 c16_i32_203
  let c0_i32_208 : BitVec 32 := 0#32
  let v124 : BitVec 1 := Scalar.cmpi .ne v123 c0_i32_208
  let v125 : BitVec 1 := Scalar.andi v122 v124
  let v111 : BitVec 32 := Scalar.divsi arg7 c16_i32_203
  let c1_i32_209 : BitVec 32 := 1#32
  let v126 : BitVec 32 := Scalar.subi v111 c1_i32_209
  let v127 : BitVec 32 := Scalar.select v125 v126 v111
  let c16384_i32 : BitVec 32 := 16384#32
  let v130 : BitVec 32 := Scalar.muli v127 c16384_i32
  let c16_i32_210 : BitVec 32 := 16#32
  let v128 : BitVec 32 := Scalar.muli v127 c16_i32_210
  let v129 : BitVec 32 := Scalar.subi arg7 v128
  let c512_i32 : BitVec 32 := 512#32
  let v131 : BitVec 32 := Scalar.muli v129 c512_i32
  let v132 : BitVec 32 := Scalar.addi v130 v131
  let c8192_i32 : BitVec 32 := 8192#32
  let v133 : BitVec 32 := Scalar.addi v132 c8192_i32
  let v136 : Index := Scalar.indexCast v133
  let c0_212 : Index := 0#32
  ![v136.toNat, 0]
@[reducible] def k0_t35_loop : Scf.Loop 32 :=
  let c0_i32_157 : BitVec 32 := 0#32
  let c32_i32_158 : BitVec 32 := 32#32
  let v98 : BitVec 32 := Scalar.addi c0_i32_157 c32_i32_158
  let c1_i32_159 : BitVec 32 := 1#32
  ⟨c0_i32_157, v98, c1_i32_159⟩
def k0_off67 (k0_t35 : Fin k0_t35_loop.trips) : Fin 2 → Nat :=
  let c0_i32_157 : BitVec 32 := 0#32
  let c1_i32_159 : BitVec 32 := 1#32
  let arg7 : BitVec 32 := Scf.iv c0_i32_157 c1_i32_159 k0_t35
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c8_i32_203 : BitVec 32 := 8#32
  let c0_i32_206 : BitVec 32 := 0#32
  let v117 : BitVec 1 := Scalar.cmpi .sgt c8_i32_203 c0_i32_206
  let v118 : BitVec 32 := Scalar.extui v117
  let c0_i32_207 : BitVec 32 := 0#32
  let v119 : BitVec 1 := Scalar.cmpi .slt c8_i32_203 c0_i32_207
  let v120 : BitVec 32 := Scalar.extui v119
  let v121 : BitVec 32 := Scalar.subi v118 v120
  let v122 : BitVec 1 := Scalar.cmpi .ne v116 v121
  let v123 : BitVec 32 := Scalar.remsi arg7 c8_i32_203
  let c0_i32_208 : BitVec 32 := 0#32
  let v124 : BitVec 1 := Scalar.cmpi .ne v123 c0_i32_208
  let v125 : BitVec 1 := Scalar.andi v122 v124
  let v111 : BitVec 32 := Scalar.divsi arg7 c8_i32_203
  let c1_i32_209 : BitVec 32 := 1#32
  let v126 : BitVec 32 := Scalar.subi v111 c1_i32_209
  let v127 : BitVec 32 := Scalar.select v125 v126 v111
  let c8192_i32 : BitVec 32 := 8192#32
  let v130 : BitVec 32 := Scalar.muli v127 c8192_i32
  let c8_i32_210 : BitVec 32 := 8#32
  let v128 : BitVec 32 := Scalar.muli v127 c8_i32_210
  let v129 : BitVec 32 := Scalar.subi arg7 v128
  let c512_i32 : BitVec 32 := 512#32
  let v131 : BitVec 32 := Scalar.muli v129 c512_i32
  let v132 : BitVec 32 := Scalar.addi v130 v131
  let v134 : Index := Scalar.indexCast v132
  let c0_211 : Index := 0#32
  ![v134.toNat, 0]
def k0_off68 (k0_t35 : Fin k0_t35_loop.trips) : Fin 2 → Nat :=
  let c0_i32_157 : BitVec 32 := 0#32
  let c1_i32_159 : BitVec 32 := 1#32
  let arg7 : BitVec 32 := Scf.iv c0_i32_157 c1_i32_159 k0_t35
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c8_i32_203 : BitVec 32 := 8#32
  let c0_i32_206 : BitVec 32 := 0#32
  let v117 : BitVec 1 := Scalar.cmpi .sgt c8_i32_203 c0_i32_206
  let v118 : BitVec 32 := Scalar.extui v117
  let c0_i32_207 : BitVec 32 := 0#32
  let v119 : BitVec 1 := Scalar.cmpi .slt c8_i32_203 c0_i32_207
  let v120 : BitVec 32 := Scalar.extui v119
  let v121 : BitVec 32 := Scalar.subi v118 v120
  let v122 : BitVec 1 := Scalar.cmpi .ne v116 v121
  let v123 : BitVec 32 := Scalar.remsi arg7 c8_i32_203
  let c0_i32_208 : BitVec 32 := 0#32
  let v124 : BitVec 1 := Scalar.cmpi .ne v123 c0_i32_208
  let v125 : BitVec 1 := Scalar.andi v122 v124
  let v111 : BitVec 32 := Scalar.divsi arg7 c8_i32_203
  let c1_i32_209 : BitVec 32 := 1#32
  let v126 : BitVec 32 := Scalar.subi v111 c1_i32_209
  let v127 : BitVec 32 := Scalar.select v125 v126 v111
  let c8192_i32 : BitVec 32 := 8192#32
  let v130 : BitVec 32 := Scalar.muli v127 c8192_i32
  let c8_i32_210 : BitVec 32 := 8#32
  let v128 : BitVec 32 := Scalar.muli v127 c8_i32_210
  let v129 : BitVec 32 := Scalar.subi arg7 v128
  let c512_i32 : BitVec 32 := 512#32
  let v131 : BitVec 32 := Scalar.muli v129 c512_i32
  let v132 : BitVec 32 := Scalar.addi v130 v131
  let c4096_i32 : BitVec 32 := 4096#32
  let v133 : BitVec 32 := Scalar.addi v132 c4096_i32
  let v136 : Index := Scalar.indexCast v133
  let c0_212 : Index := 0#32
  ![v136.toNat, 0]
@[reducible] def k0_t36_loop : Scf.Loop 32 :=
  let c0_i32_161 : BitVec 32 := 0#32
  let c32_i32_162 : BitVec 32 := 32#32
  let v99 : BitVec 32 := Scalar.addi c0_i32_161 c32_i32_162
  let c1_i32_163 : BitVec 32 := 1#32
  ⟨c0_i32_161, v99, c1_i32_163⟩
def k0_off69 (k0_t36 : Fin k0_t36_loop.trips) : Fin 2 → Nat :=
  let c0_i32_161 : BitVec 32 := 0#32
  let c1_i32_163 : BitVec 32 := 1#32
  let arg7 : BitVec 32 := Scf.iv c0_i32_161 c1_i32_163 k0_t36
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c4_i32_203 : BitVec 32 := 4#32
  let c0_i32_206 : BitVec 32 := 0#32
  let v117 : BitVec 1 := Scalar.cmpi .sgt c4_i32_203 c0_i32_206
  let v118 : BitVec 32 := Scalar.extui v117
  let c0_i32_207 : BitVec 32 := 0#32
  let v119 : BitVec 1 := Scalar.cmpi .slt c4_i32_203 c0_i32_207
  let v120 : BitVec 32 := Scalar.extui v119
  let v121 : BitVec 32 := Scalar.subi v118 v120
  let v122 : BitVec 1 := Scalar.cmpi .ne v116 v121
  let v123 : BitVec 32 := Scalar.remsi arg7 c4_i32_203
  let c0_i32_208 : BitVec 32 := 0#32
  let v124 : BitVec 1 := Scalar.cmpi .ne v123 c0_i32_208
  let v125 : BitVec 1 := Scalar.andi v122 v124
  let v111 : BitVec 32 := Scalar.divsi arg7 c4_i32_203
  let c1_i32_209 : BitVec 32 := 1#32
  let v126 : BitVec 32 := Scalar.subi v111 c1_i32_209
  let v127 : BitVec 32 := Scalar.select v125 v126 v111
  let c4096_i32 : BitVec 32 := 4096#32
  let v130 : BitVec 32 := Scalar.muli v127 c4096_i32
  let c4_i32_210 : BitVec 32 := 4#32
  let v128 : BitVec 32 := Scalar.muli v127 c4_i32_210
  let v129 : BitVec 32 := Scalar.subi arg7 v128
  let c512_i32 : BitVec 32 := 512#32
  let v131 : BitVec 32 := Scalar.muli v129 c512_i32
  let v132 : BitVec 32 := Scalar.addi v130 v131
  let v134 : Index := Scalar.indexCast v132
  let c0_211 : Index := 0#32
  ![v134.toNat, 0]
def k0_off70 (k0_t36 : Fin k0_t36_loop.trips) : Fin 2 → Nat :=
  let c0_i32_161 : BitVec 32 := 0#32
  let c1_i32_163 : BitVec 32 := 1#32
  let arg7 : BitVec 32 := Scf.iv c0_i32_161 c1_i32_163 k0_t36
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c4_i32_203 : BitVec 32 := 4#32
  let c0_i32_206 : BitVec 32 := 0#32
  let v117 : BitVec 1 := Scalar.cmpi .sgt c4_i32_203 c0_i32_206
  let v118 : BitVec 32 := Scalar.extui v117
  let c0_i32_207 : BitVec 32 := 0#32
  let v119 : BitVec 1 := Scalar.cmpi .slt c4_i32_203 c0_i32_207
  let v120 : BitVec 32 := Scalar.extui v119
  let v121 : BitVec 32 := Scalar.subi v118 v120
  let v122 : BitVec 1 := Scalar.cmpi .ne v116 v121
  let v123 : BitVec 32 := Scalar.remsi arg7 c4_i32_203
  let c0_i32_208 : BitVec 32 := 0#32
  let v124 : BitVec 1 := Scalar.cmpi .ne v123 c0_i32_208
  let v125 : BitVec 1 := Scalar.andi v122 v124
  let v111 : BitVec 32 := Scalar.divsi arg7 c4_i32_203
  let c1_i32_209 : BitVec 32 := 1#32
  let v126 : BitVec 32 := Scalar.subi v111 c1_i32_209
  let v127 : BitVec 32 := Scalar.select v125 v126 v111
  let c4096_i32 : BitVec 32 := 4096#32
  let v130 : BitVec 32 := Scalar.muli v127 c4096_i32
  let c4_i32_210 : BitVec 32 := 4#32
  let v128 : BitVec 32 := Scalar.muli v127 c4_i32_210
  let v129 : BitVec 32 := Scalar.subi arg7 v128
  let c512_i32 : BitVec 32 := 512#32
  let v131 : BitVec 32 := Scalar.muli v129 c512_i32
  let v132 : BitVec 32 := Scalar.addi v130 v131
  let c2048_i32 : BitVec 32 := 2048#32
  let v133 : BitVec 32 := Scalar.addi v132 c2048_i32
  let v136 : Index := Scalar.indexCast v133
  let c0_212 : Index := 0#32
  ![v136.toNat, 0]
@[reducible] def k0_t37_loop : Scf.Loop 32 :=
  let c0_i32_165 : BitVec 32 := 0#32
  let c32_i32_166 : BitVec 32 := 32#32
  let v100 : BitVec 32 := Scalar.addi c0_i32_165 c32_i32_166
  let c1_i32_167 : BitVec 32 := 1#32
  ⟨c0_i32_165, v100, c1_i32_167⟩
def k0_off71 (k0_t37 : Fin k0_t37_loop.trips) : Fin 2 → Nat :=
  let c0_i32_165 : BitVec 32 := 0#32
  let c1_i32_167 : BitVec 32 := 1#32
  let arg7 : BitVec 32 := Scf.iv c0_i32_165 c1_i32_167 k0_t37
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c2_i32_203 : BitVec 32 := 2#32
  let c0_i32_206 : BitVec 32 := 0#32
  let v117 : BitVec 1 := Scalar.cmpi .sgt c2_i32_203 c0_i32_206
  let v118 : BitVec 32 := Scalar.extui v117
  let c0_i32_207 : BitVec 32 := 0#32
  let v119 : BitVec 1 := Scalar.cmpi .slt c2_i32_203 c0_i32_207
  let v120 : BitVec 32 := Scalar.extui v119
  let v121 : BitVec 32 := Scalar.subi v118 v120
  let v122 : BitVec 1 := Scalar.cmpi .ne v116 v121
  let v123 : BitVec 32 := Scalar.remsi arg7 c2_i32_203
  let c0_i32_208 : BitVec 32 := 0#32
  let v124 : BitVec 1 := Scalar.cmpi .ne v123 c0_i32_208
  let v125 : BitVec 1 := Scalar.andi v122 v124
  let v111 : BitVec 32 := Scalar.divsi arg7 c2_i32_203
  let c1_i32_209 : BitVec 32 := 1#32
  let v126 : BitVec 32 := Scalar.subi v111 c1_i32_209
  let v127 : BitVec 32 := Scalar.select v125 v126 v111
  let c2048_i32 : BitVec 32 := 2048#32
  let v130 : BitVec 32 := Scalar.muli v127 c2048_i32
  let c2_i32_210 : BitVec 32 := 2#32
  let v128 : BitVec 32 := Scalar.muli v127 c2_i32_210
  let v129 : BitVec 32 := Scalar.subi arg7 v128
  let c512_i32 : BitVec 32 := 512#32
  let v131 : BitVec 32 := Scalar.muli v129 c512_i32
  let v132 : BitVec 32 := Scalar.addi v130 v131
  let v134 : Index := Scalar.indexCast v132
  let c0_211 : Index := 0#32
  ![v134.toNat, 0]
def k0_off72 (k0_t37 : Fin k0_t37_loop.trips) : Fin 2 → Nat :=
  let c0_i32_165 : BitVec 32 := 0#32
  let c1_i32_167 : BitVec 32 := 1#32
  let arg7 : BitVec 32 := Scf.iv c0_i32_165 c1_i32_167 k0_t37
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c2_i32_203 : BitVec 32 := 2#32
  let c0_i32_206 : BitVec 32 := 0#32
  let v117 : BitVec 1 := Scalar.cmpi .sgt c2_i32_203 c0_i32_206
  let v118 : BitVec 32 := Scalar.extui v117
  let c0_i32_207 : BitVec 32 := 0#32
  let v119 : BitVec 1 := Scalar.cmpi .slt c2_i32_203 c0_i32_207
  let v120 : BitVec 32 := Scalar.extui v119
  let v121 : BitVec 32 := Scalar.subi v118 v120
  let v122 : BitVec 1 := Scalar.cmpi .ne v116 v121
  let v123 : BitVec 32 := Scalar.remsi arg7 c2_i32_203
  let c0_i32_208 : BitVec 32 := 0#32
  let v124 : BitVec 1 := Scalar.cmpi .ne v123 c0_i32_208
  let v125 : BitVec 1 := Scalar.andi v122 v124
  let v111 : BitVec 32 := Scalar.divsi arg7 c2_i32_203
  let c1_i32_209 : BitVec 32 := 1#32
  let v126 : BitVec 32 := Scalar.subi v111 c1_i32_209
  let v127 : BitVec 32 := Scalar.select v125 v126 v111
  let c2048_i32 : BitVec 32 := 2048#32
  let v130 : BitVec 32 := Scalar.muli v127 c2048_i32
  let c2_i32_210 : BitVec 32 := 2#32
  let v128 : BitVec 32 := Scalar.muli v127 c2_i32_210
  let v129 : BitVec 32 := Scalar.subi arg7 v128
  let c512_i32 : BitVec 32 := 512#32
  let v131 : BitVec 32 := Scalar.muli v129 c512_i32
  let v132 : BitVec 32 := Scalar.addi v130 v131
  let c1024_i32 : BitVec 32 := 1024#32
  let v133 : BitVec 32 := Scalar.addi v132 c1024_i32
  let v136 : Index := Scalar.indexCast v133
  let c0_212 : Index := 0#32
  ![v136.toNat, 0]
@[reducible] def k0_t38_loop : Scf.Loop 32 :=
  let c0_i32_169 : BitVec 32 := 0#32
  let c32_i32_170 : BitVec 32 := 32#32
  let v101 : BitVec 32 := Scalar.addi c0_i32_169 c32_i32_170
  let c1_i32_171 : BitVec 32 := 1#32
  ⟨c0_i32_169, v101, c1_i32_171⟩
def k0_off73 (k0_t38 : Fin k0_t38_loop.trips) : Fin 2 → Nat :=
  let c2_i32_203 : BitVec 32 := 2#32
  let c0_i32_169 : BitVec 32 := 0#32
  let c1_i32_171 : BitVec 32 := 1#32
  let arg7 : BitVec 32 := Scf.iv c0_i32_169 c1_i32_171 k0_t38
  let v111 : BitVec 32 := Scalar.muli c2_i32_203 arg7
  let c512_i32 : BitVec 32 := 512#32
  let v112 : BitVec 32 := Scalar.muli v111 c512_i32
  let v118 : Index := Scalar.indexCast v112
  let c0_210 : Index := 0#32
  ![v118.toNat, 0]
def k0_off74 (k0_t38 : Fin k0_t38_loop.trips) : Fin 2 → Nat :=
  let c2_i32_203 : BitVec 32 := 2#32
  let c0_i32_169 : BitVec 32 := 0#32
  let c1_i32_171 : BitVec 32 := 1#32
  let arg7 : BitVec 32 := Scf.iv c0_i32_169 c1_i32_171 k0_t38
  let v111 : BitVec 32 := Scalar.muli c2_i32_203 arg7
  let c512_i32 : BitVec 32 := 512#32
  let v112 : BitVec 32 := Scalar.muli v111 c512_i32
  let c512_i32_204 : BitVec 32 := 512#32
  let v113 : BitVec 32 := Scalar.addi v112 c512_i32_204
  let v122 : Index := Scalar.indexCast v113
  let c0_211 : Index := 0#32
  ![v122.toNat, 0]
@[reducible] def k0_t39_loop : Scf.Loop 32 :=
  let c0_i32_173 : BitVec 32 := 0#32
  let c32_i32_174 : BitVec 32 := 32#32
  let v102 : BitVec 32 := Scalar.addi c0_i32_173 c32_i32_174
  let c1_i32_175 : BitVec 32 := 1#32
  ⟨c0_i32_173, v102, c1_i32_175⟩
def k0_off75 (k0_t39 : Fin k0_t39_loop.trips) : Fin 2 → Nat :=
  let c0_i32_173 : BitVec 32 := 0#32
  let c1_i32_175 : BitVec 32 := 1#32
  let arg7 : BitVec 32 := Scf.iv c0_i32_173 c1_i32_175 k0_t39
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c32_i32_203 : BitVec 32 := 32#32
  let c0_i32_206 : BitVec 32 := 0#32
  let v117 : BitVec 1 := Scalar.cmpi .sgt c32_i32_203 c0_i32_206
  let v118 : BitVec 32 := Scalar.extui v117
  let c0_i32_207 : BitVec 32 := 0#32
  let v119 : BitVec 1 := Scalar.cmpi .slt c32_i32_203 c0_i32_207
  let v120 : BitVec 32 := Scalar.extui v119
  let v121 : BitVec 32 := Scalar.subi v118 v120
  let v122 : BitVec 1 := Scalar.cmpi .ne v116 v121
  let v123 : BitVec 32 := Scalar.remsi arg7 c32_i32_203
  let c0_i32_208 : BitVec 32 := 0#32
  let v124 : BitVec 1 := Scalar.cmpi .ne v123 c0_i32_208
  let v125 : BitVec 1 := Scalar.andi v122 v124
  let v111 : BitVec 32 := Scalar.divsi arg7 c32_i32_203
  let c1_i32_209 : BitVec 32 := 1#32
  let v126 : BitVec 32 := Scalar.subi v111 c1_i32_209
  let v127 : BitVec 32 := Scalar.select v125 v126 v111
  let c32768_i32 : BitVec 32 := 32768#32
  let v130 : BitVec 32 := Scalar.muli v127 c32768_i32
  let c32_i32_210 : BitVec 32 := 32#32
  let v128 : BitVec 32 := Scalar.muli v127 c32_i32_210
  let v129 : BitVec 32 := Scalar.subi arg7 v128
  let c512_i32 : BitVec 32 := 512#32
  let v131 : BitVec 32 := Scalar.muli v129 c512_i32
  let v132 : BitVec 32 := Scalar.addi v130 v131
  let v134 : Index := Scalar.indexCast v132
  let c0_211 : Index := 0#32
  ![v134.toNat, 0]
def k0_off76 (k0_t39 : Fin k0_t39_loop.trips) : Fin 2 → Nat :=
  let c0_i32_173 : BitVec 32 := 0#32
  let c1_i32_175 : BitVec 32 := 1#32
  let arg7 : BitVec 32 := Scf.iv c0_i32_173 c1_i32_175 k0_t39
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c32_i32_203 : BitVec 32 := 32#32
  let c0_i32_206 : BitVec 32 := 0#32
  let v117 : BitVec 1 := Scalar.cmpi .sgt c32_i32_203 c0_i32_206
  let v118 : BitVec 32 := Scalar.extui v117
  let c0_i32_207 : BitVec 32 := 0#32
  let v119 : BitVec 1 := Scalar.cmpi .slt c32_i32_203 c0_i32_207
  let v120 : BitVec 32 := Scalar.extui v119
  let v121 : BitVec 32 := Scalar.subi v118 v120
  let v122 : BitVec 1 := Scalar.cmpi .ne v116 v121
  let v123 : BitVec 32 := Scalar.remsi arg7 c32_i32_203
  let c0_i32_208 : BitVec 32 := 0#32
  let v124 : BitVec 1 := Scalar.cmpi .ne v123 c0_i32_208
  let v125 : BitVec 1 := Scalar.andi v122 v124
  let v111 : BitVec 32 := Scalar.divsi arg7 c32_i32_203
  let c1_i32_209 : BitVec 32 := 1#32
  let v126 : BitVec 32 := Scalar.subi v111 c1_i32_209
  let v127 : BitVec 32 := Scalar.select v125 v126 v111
  let c32768_i32 : BitVec 32 := 32768#32
  let v130 : BitVec 32 := Scalar.muli v127 c32768_i32
  let c32_i32_210 : BitVec 32 := 32#32
  let v128 : BitVec 32 := Scalar.muli v127 c32_i32_210
  let v129 : BitVec 32 := Scalar.subi arg7 v128
  let c512_i32 : BitVec 32 := 512#32
  let v131 : BitVec 32 := Scalar.muli v129 c512_i32
  let v132 : BitVec 32 := Scalar.addi v130 v131
  let c16384_i32 : BitVec 32 := 16384#32
  let v133 : BitVec 32 := Scalar.addi v132 c16384_i32
  let v136 : Index := Scalar.indexCast v133
  let c0_212 : Index := 0#32
  ![v136.toNat, 0]
@[reducible] def k0_t40_loop : Scf.Loop 32 :=
  let c0_i32_177 : BitVec 32 := 0#32
  let c32_i32_178 : BitVec 32 := 32#32
  let v103 : BitVec 32 := Scalar.addi c0_i32_177 c32_i32_178
  let c1_i32_179 : BitVec 32 := 1#32
  ⟨c0_i32_177, v103, c1_i32_179⟩
def k0_off77 (k0_t40 : Fin k0_t40_loop.trips) : Fin 2 → Nat :=
  let c0_i32_177 : BitVec 32 := 0#32
  let c1_i32_179 : BitVec 32 := 1#32
  let arg7 : BitVec 32 := Scf.iv c0_i32_177 c1_i32_179 k0_t40
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c16_i32_203 : BitVec 32 := 16#32
  let c0_i32_206 : BitVec 32 := 0#32
  let v117 : BitVec 1 := Scalar.cmpi .sgt c16_i32_203 c0_i32_206
  let v118 : BitVec 32 := Scalar.extui v117
  let c0_i32_207 : BitVec 32 := 0#32
  let v119 : BitVec 1 := Scalar.cmpi .slt c16_i32_203 c0_i32_207
  let v120 : BitVec 32 := Scalar.extui v119
  let v121 : BitVec 32 := Scalar.subi v118 v120
  let v122 : BitVec 1 := Scalar.cmpi .ne v116 v121
  let v123 : BitVec 32 := Scalar.remsi arg7 c16_i32_203
  let c0_i32_208 : BitVec 32 := 0#32
  let v124 : BitVec 1 := Scalar.cmpi .ne v123 c0_i32_208
  let v125 : BitVec 1 := Scalar.andi v122 v124
  let v111 : BitVec 32 := Scalar.divsi arg7 c16_i32_203
  let c1_i32_209 : BitVec 32 := 1#32
  let v126 : BitVec 32 := Scalar.subi v111 c1_i32_209
  let v127 : BitVec 32 := Scalar.select v125 v126 v111
  let c16384_i32 : BitVec 32 := 16384#32
  let v130 : BitVec 32 := Scalar.muli v127 c16384_i32
  let c16_i32_210 : BitVec 32 := 16#32
  let v128 : BitVec 32 := Scalar.muli v127 c16_i32_210
  let v129 : BitVec 32 := Scalar.subi arg7 v128
  let c512_i32 : BitVec 32 := 512#32
  let v131 : BitVec 32 := Scalar.muli v129 c512_i32
  let v132 : BitVec 32 := Scalar.addi v130 v131
  let v134 : Index := Scalar.indexCast v132
  let c0_211 : Index := 0#32
  ![v134.toNat, 0]
def k0_off78 (k0_t40 : Fin k0_t40_loop.trips) : Fin 2 → Nat :=
  let c0_i32_177 : BitVec 32 := 0#32
  let c1_i32_179 : BitVec 32 := 1#32
  let arg7 : BitVec 32 := Scf.iv c0_i32_177 c1_i32_179 k0_t40
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c16_i32_203 : BitVec 32 := 16#32
  let c0_i32_206 : BitVec 32 := 0#32
  let v117 : BitVec 1 := Scalar.cmpi .sgt c16_i32_203 c0_i32_206
  let v118 : BitVec 32 := Scalar.extui v117
  let c0_i32_207 : BitVec 32 := 0#32
  let v119 : BitVec 1 := Scalar.cmpi .slt c16_i32_203 c0_i32_207
  let v120 : BitVec 32 := Scalar.extui v119
  let v121 : BitVec 32 := Scalar.subi v118 v120
  let v122 : BitVec 1 := Scalar.cmpi .ne v116 v121
  let v123 : BitVec 32 := Scalar.remsi arg7 c16_i32_203
  let c0_i32_208 : BitVec 32 := 0#32
  let v124 : BitVec 1 := Scalar.cmpi .ne v123 c0_i32_208
  let v125 : BitVec 1 := Scalar.andi v122 v124
  let v111 : BitVec 32 := Scalar.divsi arg7 c16_i32_203
  let c1_i32_209 : BitVec 32 := 1#32
  let v126 : BitVec 32 := Scalar.subi v111 c1_i32_209
  let v127 : BitVec 32 := Scalar.select v125 v126 v111
  let c16384_i32 : BitVec 32 := 16384#32
  let v130 : BitVec 32 := Scalar.muli v127 c16384_i32
  let c16_i32_210 : BitVec 32 := 16#32
  let v128 : BitVec 32 := Scalar.muli v127 c16_i32_210
  let v129 : BitVec 32 := Scalar.subi arg7 v128
  let c512_i32 : BitVec 32 := 512#32
  let v131 : BitVec 32 := Scalar.muli v129 c512_i32
  let v132 : BitVec 32 := Scalar.addi v130 v131
  let c8192_i32 : BitVec 32 := 8192#32
  let v133 : BitVec 32 := Scalar.addi v132 c8192_i32
  let v136 : Index := Scalar.indexCast v133
  let c0_212 : Index := 0#32
  ![v136.toNat, 0]
@[reducible] def k0_t41_loop : Scf.Loop 32 :=
  let c0_i32_181 : BitVec 32 := 0#32
  let c32_i32_182 : BitVec 32 := 32#32
  let v104 : BitVec 32 := Scalar.addi c0_i32_181 c32_i32_182
  let c1_i32_183 : BitVec 32 := 1#32
  ⟨c0_i32_181, v104, c1_i32_183⟩
def k0_off79 (k0_t41 : Fin k0_t41_loop.trips) : Fin 2 → Nat :=
  let c0_i32_181 : BitVec 32 := 0#32
  let c1_i32_183 : BitVec 32 := 1#32
  let arg7 : BitVec 32 := Scf.iv c0_i32_181 c1_i32_183 k0_t41
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c8_i32_203 : BitVec 32 := 8#32
  let c0_i32_206 : BitVec 32 := 0#32
  let v117 : BitVec 1 := Scalar.cmpi .sgt c8_i32_203 c0_i32_206
  let v118 : BitVec 32 := Scalar.extui v117
  let c0_i32_207 : BitVec 32 := 0#32
  let v119 : BitVec 1 := Scalar.cmpi .slt c8_i32_203 c0_i32_207
  let v120 : BitVec 32 := Scalar.extui v119
  let v121 : BitVec 32 := Scalar.subi v118 v120
  let v122 : BitVec 1 := Scalar.cmpi .ne v116 v121
  let v123 : BitVec 32 := Scalar.remsi arg7 c8_i32_203
  let c0_i32_208 : BitVec 32 := 0#32
  let v124 : BitVec 1 := Scalar.cmpi .ne v123 c0_i32_208
  let v125 : BitVec 1 := Scalar.andi v122 v124
  let v111 : BitVec 32 := Scalar.divsi arg7 c8_i32_203
  let c1_i32_209 : BitVec 32 := 1#32
  let v126 : BitVec 32 := Scalar.subi v111 c1_i32_209
  let v127 : BitVec 32 := Scalar.select v125 v126 v111
  let c8192_i32 : BitVec 32 := 8192#32
  let v130 : BitVec 32 := Scalar.muli v127 c8192_i32
  let c8_i32_210 : BitVec 32 := 8#32
  let v128 : BitVec 32 := Scalar.muli v127 c8_i32_210
  let v129 : BitVec 32 := Scalar.subi arg7 v128
  let c512_i32 : BitVec 32 := 512#32
  let v131 : BitVec 32 := Scalar.muli v129 c512_i32
  let v132 : BitVec 32 := Scalar.addi v130 v131
  let v134 : Index := Scalar.indexCast v132
  let c0_211 : Index := 0#32
  ![v134.toNat, 0]
def k0_off80 (k0_t41 : Fin k0_t41_loop.trips) : Fin 2 → Nat :=
  let c0_i32_181 : BitVec 32 := 0#32
  let c1_i32_183 : BitVec 32 := 1#32
  let arg7 : BitVec 32 := Scf.iv c0_i32_181 c1_i32_183 k0_t41
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c8_i32_203 : BitVec 32 := 8#32
  let c0_i32_206 : BitVec 32 := 0#32
  let v117 : BitVec 1 := Scalar.cmpi .sgt c8_i32_203 c0_i32_206
  let v118 : BitVec 32 := Scalar.extui v117
  let c0_i32_207 : BitVec 32 := 0#32
  let v119 : BitVec 1 := Scalar.cmpi .slt c8_i32_203 c0_i32_207
  let v120 : BitVec 32 := Scalar.extui v119
  let v121 : BitVec 32 := Scalar.subi v118 v120
  let v122 : BitVec 1 := Scalar.cmpi .ne v116 v121
  let v123 : BitVec 32 := Scalar.remsi arg7 c8_i32_203
  let c0_i32_208 : BitVec 32 := 0#32
  let v124 : BitVec 1 := Scalar.cmpi .ne v123 c0_i32_208
  let v125 : BitVec 1 := Scalar.andi v122 v124
  let v111 : BitVec 32 := Scalar.divsi arg7 c8_i32_203
  let c1_i32_209 : BitVec 32 := 1#32
  let v126 : BitVec 32 := Scalar.subi v111 c1_i32_209
  let v127 : BitVec 32 := Scalar.select v125 v126 v111
  let c8192_i32 : BitVec 32 := 8192#32
  let v130 : BitVec 32 := Scalar.muli v127 c8192_i32
  let c8_i32_210 : BitVec 32 := 8#32
  let v128 : BitVec 32 := Scalar.muli v127 c8_i32_210
  let v129 : BitVec 32 := Scalar.subi arg7 v128
  let c512_i32 : BitVec 32 := 512#32
  let v131 : BitVec 32 := Scalar.muli v129 c512_i32
  let v132 : BitVec 32 := Scalar.addi v130 v131
  let c4096_i32 : BitVec 32 := 4096#32
  let v133 : BitVec 32 := Scalar.addi v132 c4096_i32
  let v136 : Index := Scalar.indexCast v133
  let c0_212 : Index := 0#32
  ![v136.toNat, 0]
@[reducible] def k0_t42_loop : Scf.Loop 32 :=
  let c0_i32_185 : BitVec 32 := 0#32
  let c32_i32_186 : BitVec 32 := 32#32
  let v105 : BitVec 32 := Scalar.addi c0_i32_185 c32_i32_186
  let c1_i32_187 : BitVec 32 := 1#32
  ⟨c0_i32_185, v105, c1_i32_187⟩
def k0_off81 (k0_t42 : Fin k0_t42_loop.trips) : Fin 2 → Nat :=
  let c0_i32_185 : BitVec 32 := 0#32
  let c1_i32_187 : BitVec 32 := 1#32
  let arg7 : BitVec 32 := Scf.iv c0_i32_185 c1_i32_187 k0_t42
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c4_i32_203 : BitVec 32 := 4#32
  let c0_i32_206 : BitVec 32 := 0#32
  let v117 : BitVec 1 := Scalar.cmpi .sgt c4_i32_203 c0_i32_206
  let v118 : BitVec 32 := Scalar.extui v117
  let c0_i32_207 : BitVec 32 := 0#32
  let v119 : BitVec 1 := Scalar.cmpi .slt c4_i32_203 c0_i32_207
  let v120 : BitVec 32 := Scalar.extui v119
  let v121 : BitVec 32 := Scalar.subi v118 v120
  let v122 : BitVec 1 := Scalar.cmpi .ne v116 v121
  let v123 : BitVec 32 := Scalar.remsi arg7 c4_i32_203
  let c0_i32_208 : BitVec 32 := 0#32
  let v124 : BitVec 1 := Scalar.cmpi .ne v123 c0_i32_208
  let v125 : BitVec 1 := Scalar.andi v122 v124
  let v111 : BitVec 32 := Scalar.divsi arg7 c4_i32_203
  let c1_i32_209 : BitVec 32 := 1#32
  let v126 : BitVec 32 := Scalar.subi v111 c1_i32_209
  let v127 : BitVec 32 := Scalar.select v125 v126 v111
  let c4096_i32 : BitVec 32 := 4096#32
  let v130 : BitVec 32 := Scalar.muli v127 c4096_i32
  let c4_i32_210 : BitVec 32 := 4#32
  let v128 : BitVec 32 := Scalar.muli v127 c4_i32_210
  let v129 : BitVec 32 := Scalar.subi arg7 v128
  let c512_i32 : BitVec 32 := 512#32
  let v131 : BitVec 32 := Scalar.muli v129 c512_i32
  let v132 : BitVec 32 := Scalar.addi v130 v131
  let v134 : Index := Scalar.indexCast v132
  let c0_211 : Index := 0#32
  ![v134.toNat, 0]
def k0_off82 (k0_t42 : Fin k0_t42_loop.trips) : Fin 2 → Nat :=
  let c0_i32_185 : BitVec 32 := 0#32
  let c1_i32_187 : BitVec 32 := 1#32
  let arg7 : BitVec 32 := Scf.iv c0_i32_185 c1_i32_187 k0_t42
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c4_i32_203 : BitVec 32 := 4#32
  let c0_i32_206 : BitVec 32 := 0#32
  let v117 : BitVec 1 := Scalar.cmpi .sgt c4_i32_203 c0_i32_206
  let v118 : BitVec 32 := Scalar.extui v117
  let c0_i32_207 : BitVec 32 := 0#32
  let v119 : BitVec 1 := Scalar.cmpi .slt c4_i32_203 c0_i32_207
  let v120 : BitVec 32 := Scalar.extui v119
  let v121 : BitVec 32 := Scalar.subi v118 v120
  let v122 : BitVec 1 := Scalar.cmpi .ne v116 v121
  let v123 : BitVec 32 := Scalar.remsi arg7 c4_i32_203
  let c0_i32_208 : BitVec 32 := 0#32
  let v124 : BitVec 1 := Scalar.cmpi .ne v123 c0_i32_208
  let v125 : BitVec 1 := Scalar.andi v122 v124
  let v111 : BitVec 32 := Scalar.divsi arg7 c4_i32_203
  let c1_i32_209 : BitVec 32 := 1#32
  let v126 : BitVec 32 := Scalar.subi v111 c1_i32_209
  let v127 : BitVec 32 := Scalar.select v125 v126 v111
  let c4096_i32 : BitVec 32 := 4096#32
  let v130 : BitVec 32 := Scalar.muli v127 c4096_i32
  let c4_i32_210 : BitVec 32 := 4#32
  let v128 : BitVec 32 := Scalar.muli v127 c4_i32_210
  let v129 : BitVec 32 := Scalar.subi arg7 v128
  let c512_i32 : BitVec 32 := 512#32
  let v131 : BitVec 32 := Scalar.muli v129 c512_i32
  let v132 : BitVec 32 := Scalar.addi v130 v131
  let c2048_i32 : BitVec 32 := 2048#32
  let v133 : BitVec 32 := Scalar.addi v132 c2048_i32
  let v136 : Index := Scalar.indexCast v133
  let c0_212 : Index := 0#32
  ![v136.toNat, 0]
@[reducible] def k0_t43_loop : Scf.Loop 32 :=
  let c0_i32_189 : BitVec 32 := 0#32
  let c32_i32_190 : BitVec 32 := 32#32
  let v106 : BitVec 32 := Scalar.addi c0_i32_189 c32_i32_190
  let c1_i32_191 : BitVec 32 := 1#32
  ⟨c0_i32_189, v106, c1_i32_191⟩
def k0_off83 (k0_t43 : Fin k0_t43_loop.trips) : Fin 2 → Nat :=
  let c0_i32_189 : BitVec 32 := 0#32
  let c1_i32_191 : BitVec 32 := 1#32
  let arg7 : BitVec 32 := Scf.iv c0_i32_189 c1_i32_191 k0_t43
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c2_i32_203 : BitVec 32 := 2#32
  let c0_i32_206 : BitVec 32 := 0#32
  let v117 : BitVec 1 := Scalar.cmpi .sgt c2_i32_203 c0_i32_206
  let v118 : BitVec 32 := Scalar.extui v117
  let c0_i32_207 : BitVec 32 := 0#32
  let v119 : BitVec 1 := Scalar.cmpi .slt c2_i32_203 c0_i32_207
  let v120 : BitVec 32 := Scalar.extui v119
  let v121 : BitVec 32 := Scalar.subi v118 v120
  let v122 : BitVec 1 := Scalar.cmpi .ne v116 v121
  let v123 : BitVec 32 := Scalar.remsi arg7 c2_i32_203
  let c0_i32_208 : BitVec 32 := 0#32
  let v124 : BitVec 1 := Scalar.cmpi .ne v123 c0_i32_208
  let v125 : BitVec 1 := Scalar.andi v122 v124
  let v111 : BitVec 32 := Scalar.divsi arg7 c2_i32_203
  let c1_i32_209 : BitVec 32 := 1#32
  let v126 : BitVec 32 := Scalar.subi v111 c1_i32_209
  let v127 : BitVec 32 := Scalar.select v125 v126 v111
  let c2048_i32 : BitVec 32 := 2048#32
  let v130 : BitVec 32 := Scalar.muli v127 c2048_i32
  let c2_i32_210 : BitVec 32 := 2#32
  let v128 : BitVec 32 := Scalar.muli v127 c2_i32_210
  let v129 : BitVec 32 := Scalar.subi arg7 v128
  let c512_i32 : BitVec 32 := 512#32
  let v131 : BitVec 32 := Scalar.muli v129 c512_i32
  let v132 : BitVec 32 := Scalar.addi v130 v131
  let v134 : Index := Scalar.indexCast v132
  let c0_211 : Index := 0#32
  ![v134.toNat, 0]
def k0_off84 (k0_t43 : Fin k0_t43_loop.trips) : Fin 2 → Nat :=
  let c0_i32_189 : BitVec 32 := 0#32
  let c1_i32_191 : BitVec 32 := 1#32
  let arg7 : BitVec 32 := Scf.iv c0_i32_189 c1_i32_191 k0_t43
  let c0_i32_204 : BitVec 32 := 0#32
  let v112 : BitVec 1 := Scalar.cmpi .sgt arg7 c0_i32_204
  let v113 : BitVec 32 := Scalar.extui v112
  let c0_i32_205 : BitVec 32 := 0#32
  let v114 : BitVec 1 := Scalar.cmpi .slt arg7 c0_i32_205
  let v115 : BitVec 32 := Scalar.extui v114
  let v116 : BitVec 32 := Scalar.subi v113 v115
  let c2_i32_203 : BitVec 32 := 2#32
  let c0_i32_206 : BitVec 32 := 0#32
  let v117 : BitVec 1 := Scalar.cmpi .sgt c2_i32_203 c0_i32_206
  let v118 : BitVec 32 := Scalar.extui v117
  let c0_i32_207 : BitVec 32 := 0#32
  let v119 : BitVec 1 := Scalar.cmpi .slt c2_i32_203 c0_i32_207
  let v120 : BitVec 32 := Scalar.extui v119
  let v121 : BitVec 32 := Scalar.subi v118 v120
  let v122 : BitVec 1 := Scalar.cmpi .ne v116 v121
  let v123 : BitVec 32 := Scalar.remsi arg7 c2_i32_203
  let c0_i32_208 : BitVec 32 := 0#32
  let v124 : BitVec 1 := Scalar.cmpi .ne v123 c0_i32_208
  let v125 : BitVec 1 := Scalar.andi v122 v124
  let v111 : BitVec 32 := Scalar.divsi arg7 c2_i32_203
  let c1_i32_209 : BitVec 32 := 1#32
  let v126 : BitVec 32 := Scalar.subi v111 c1_i32_209
  let v127 : BitVec 32 := Scalar.select v125 v126 v111
  let c2048_i32 : BitVec 32 := 2048#32
  let v130 : BitVec 32 := Scalar.muli v127 c2048_i32
  let c2_i32_210 : BitVec 32 := 2#32
  let v128 : BitVec 32 := Scalar.muli v127 c2_i32_210
  let v129 : BitVec 32 := Scalar.subi arg7 v128
  let c512_i32 : BitVec 32 := 512#32
  let v131 : BitVec 32 := Scalar.muli v129 c512_i32
  let v132 : BitVec 32 := Scalar.addi v130 v131
  let c1024_i32 : BitVec 32 := 1024#32
  let v133 : BitVec 32 := Scalar.addi v132 c1024_i32
  let v136 : Index := Scalar.indexCast v133
  let c0_212 : Index := 0#32
  ![v136.toNat, 0]
@[reducible] def k0_t44_loop : Scf.Loop 32 :=
  let c0_i32_193 : BitVec 32 := 0#32
  let c32_i32_194 : BitVec 32 := 32#32
  let v107 : BitVec 32 := Scalar.addi c0_i32_193 c32_i32_194
  let c1_i32_195 : BitVec 32 := 1#32
  ⟨c0_i32_193, v107, c1_i32_195⟩
def k0_off85 (k0_t44 : Fin k0_t44_loop.trips) : Fin 2 → Nat :=
  let c2_i32_203 : BitVec 32 := 2#32
  let c0_i32_193 : BitVec 32 := 0#32
  let c1_i32_195 : BitVec 32 := 1#32
  let arg7 : BitVec 32 := Scf.iv c0_i32_193 c1_i32_195 k0_t44
  let v111 : BitVec 32 := Scalar.muli c2_i32_203 arg7
  let c512_i32 : BitVec 32 := 512#32
  let v112 : BitVec 32 := Scalar.muli v111 c512_i32
  let v118 : Index := Scalar.indexCast v112
  let c0_209 : Index := 0#32
  ![v118.toNat, 0]
def k0_off86 (k0_t44 : Fin k0_t44_loop.trips) : Fin 2 → Nat :=
  let c2_i32_203 : BitVec 32 := 2#32
  let c0_i32_193 : BitVec 32 := 0#32
  let c1_i32_195 : BitVec 32 := 1#32
  let arg7 : BitVec 32 := Scf.iv c0_i32_193 c1_i32_195 k0_t44
  let v111 : BitVec 32 := Scalar.muli c2_i32_203 arg7
  let c512_i32 : BitVec 32 := 512#32
  let v112 : BitVec 32 := Scalar.muli v111 c512_i32
  let c512_i32_204 : BitVec 32 := 512#32
  let v113 : BitVec 32 := Scalar.addi v112 c512_i32_204
  let v122 : Index := Scalar.indexCast v113
  let c0_210 : Index := 0#32
  ![v122.toNat, 0]
@[reducible] def k0_t45_loop : Scf.Loop 32 :=
  let c0_i32_198 : BitVec 32 := 0#32
  let c16_i32_199 : BitVec 32 := 16#32
  let v108 : BitVec 32 := Scalar.addi c0_i32_198 c16_i32_199
  let c1_i32_200 : BitVec 32 := 1#32
  ⟨c0_i32_198, v108, c1_i32_200⟩
def k0_off87 (k0_t45 : Fin k0_t45_loop.trips) : Fin 2 → Nat :=
  let c0_i32_198 : BitVec 32 := 0#32
  let c1_i32_200 : BitVec 32 := 1#32
  let arg7 : BitVec 32 := Scf.iv c0_i32_198 c1_i32_200 k0_t45
  let c2048_i32 : BitVec 32 := 2048#32
  let v111 : BitVec 32 := Scalar.muli arg7 c2048_i32
  let v112 : Index := Scalar.indexCast v111
  let c0_203 : Index := 0#32
  ![v112.toNat, 0]
abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S128x32768 : Shape := ⟨2, ![128, 32768]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S128x32768, .f32⟩
  | .hbm, ⟨2, _⟩ => ⟨S128x32768, .f32⟩
  | .hbm, ⟨3, _⟩ => ⟨S128x32768, .f32⟩
  | .hbm, ⟨4, _⟩ => ⟨S128x32768, .f32⟩
  | .hbm, ⟨5, _⟩ => ⟨S128x32768, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.Blocks.lean ====
/-
  THE BLOCK FUNCTIONS of the sort, as functions of vectors: what the kernel does with one block of 512 rows and 128 lanes. Every
  lane is a column of its own; the rows are the positions that are sorted. The functions are stated over any float instance.
-/
module

public import Idealize.ShloMosaic.Lib.Pipeline
public import Idealize.ShloMosaic.Lib.Scf
public import Idealize.ShloMosaic.Lib.Sig
public import Idealize.ShloMosaic.Lib.StableHlo
public import Idealize.ShloMosaic.PureOps

@[expose] public section

noncomputable section

namespace Cert.Sort

open Idealize.ShloMosaic Idealize.SL.Sem

variable {F : FTy → Type} [FloatOps F]

/-- A block: 512 rows of 128 lanes. -/
abbrev SB : Shape := ⟨2, ![512, 128]⟩
/-- A column of 512 words, one per row of a block. -/
abbrev SC : Shape := ⟨2, ![512, 1]⟩
/-- A whole buffer: 32768 rows of 128 lanes. -/
abbrev SA : Shape := ⟨2, ![32768, 128]⟩
/-- A block seen as `g` groups of `s` rows. -/
abbrev SG (g s : ℕ) : Shape := ⟨3, ![g, s, 128]⟩

theorem slice_lo (g j : ℕ) : (SG g (8 * 2 ^ (j + 1))).Slices ![0, 0, 0] (SG g (8 * 2 ^ j)) := by
  refine ⟨rfl, fun a => ?_⟩
  fin_cases a
  · show 0 + g ≤ g; omega
  · show 0 + 8 * 2 ^ j ≤ 8 * 2 ^ (j + 1); rw [Nat.pow_succ]; omega
  · show 0 + 128 ≤ 128; omega

theorem slice_hi (g j : ℕ) : (SG g (8 * 2 ^ (j + 1))).Slices ![0, 8 * 2 ^ j, 0] (SG g (8 * 2 ^ j)) := by
  refine ⟨rfl, fun a => ?_⟩
  fin_cases a
  · show 0 + g ≤ g; omega
  · show 8 * 2 ^ j + 8 * 2 ^ j ≤ 8 * 2 ^ (j + 1); rw [Nat.pow_succ]; omega
  · show 0 + 128 ≤ 128; omega

/-- The first half of every group's rows. -/
def lowHalf (g j : ℕ) (x : FVec F (SG g (8 * 2 ^ (j + 1))) .f32) : FVec F (SG g (8 * 2 ^ j)) .f32 :=
  extractStridedSlice (SG g (8 * 2 ^ j)) ![0, 0, 0] x (slice_lo g j)

/-- The second half of every group's rows. -/
def highHalf (g j : ℕ) (x : FVec F (SG g (8 * 2 ^ (j + 1))) .f32) : FVec F (SG g (8 * 2 ^ j)) .f32 :=
  extractStridedSlice (SG g (8 * 2 ^ j)) ![0, 8 * 2 ^ j, 0] x (slice_hi g j)

/-- The halving steps on groups of `8 * 2 ^ j` rows: the lesser of the two halves, halved further, then the greater, halved further;
    the pieces of eight rows, in order, put before `acc`. -/
def halve (g : ℕ) : (j : ℕ) → FVec F (SG g (8 * 2 ^ j)) .f32 → List ((s : Shape) × (s.Idx → F .f32)) → List ((s : Shape) × (s.Idx → F .f32))
  | 0, x, acc => ⟨SG g 8, x⟩ :: acc
  | j + 1, x, acc =>
    halve g j (minimumf (lowHalf g j x) (highHalf g j x)) (halve g j (maximumf (lowHalf g j x) (highHalf g j x)) acc)

theorem halve_shapes (g : ℕ) (j : ℕ) (x : FVec F (SG g (8 * 2 ^ j)) .f32) (acc : List ((s : Shape) × (s.Idx → F .f32))) :
    (halve g j x acc).map (·.1) = List.replicate (2 ^ j) (SG g 8) ++ acc.map (·.1) := by
  induction j generalizing acc with
  | zero => rfl
  | succ j ih =>
    rw [halve, ih, ih, ← List.append_assoc, List.replicate_append_replicate, Nat.pow_succ, Nat.mul_two]

theorem concatenates_pieces (g j : ℕ) : Shape.Concatenates (List.replicate (2 ^ (j + 1)) (SG g 8)) (SG g (8 * 2 ^ (j + 1))) 1 := by
  refine ⟨?_, fun s hs => ?_, ?_⟩
  · rw [List.length_replicate, Nat.pow_succ]
    have := Nat.two_pow_pos j
    omega
  · obtain rfl := List.eq_of_mem_replicate hs
    refine ⟨rfl, fun b hb => ?_⟩
    fin_cases b
    · rfl
    · exact absurd rfl hb
    · rfl
  · rw [List.map_replicate, List.sum_replicate]
    show 2 ^ (j + 1) • 8 = 8 * 2 ^ (j + 1)
    rw [smul_eq_mul, Nat.mul_comm]

theorem concatenates_halve (g j : ℕ) (x : FVec F (SG g (8 * 2 ^ (j + 1))) .f32) :
    Shape.Concatenates ((halve g (j + 1) x []).map (·.1)) (SG g (8 * 2 ^ (j + 1))) 1 := by
  rw [halve_shapes, List.map_nil, List.append_nil]
  exact concatenates_pieces g j

/-- The halving steps on a block seen as `g` groups of `8 * 2 ^ (j + 1)` rows, the pieces put together again. -/
def halves (g j : ℕ) (h : SB.ShapeCasts (SG g (8 * 2 ^ (j + 1)))) (h' : (SG g (8 * 2 ^ (j + 1))).ShapeCasts SB) (x : FVec F SB .f32) :
    FVec F SB .f32 :=
  shapeCast SB (concatenate (SG g (8 * 2 ^ (j + 1))) 1 (halve g (j + 1) (shapeCast (SG g (8 * 2 ^ (j + 1))) x h) [])
    (concatenates_halve g j _)) h'

/-- Where the bit `m` of the row number is clear. -/
def clear (v0 : IVec SC 32) (m : BitVec 32) : IVec SC 1 :=
  cmpi .eq (andi v0 (broadcast SC m)) (broadcast SC 0#32)

/-- One stage inside a block by rotation: a row with bit `m` clear takes the lesser of itself and the row `m` after it, a row with it
    set the greater of itself and the row `m` before it. `n` is `512 - m`. -/
def roll (v0 : IVec SC 32) (n m : BitVec 32) (x : FVec F SB .f32) : FVec F SB .f32 :=
  select (broadcastTo SB (shapeCast SC (clear v0 m)))
    (minimumf x (dynamicRotate 0 n none x)) (maximumf x (dynamicRotate 0 m none x))

/-- The stages at distances one. -/
def roll1 (v0 : IVec SC 32) (x : FVec F SB .f32) : FVec F SB .f32 := roll v0 511#32 1#32 x
/-- The stages at distances two and one. -/
def roll2 (v0 : IVec SC 32) (x : FVec F SB .f32) : FVec F SB .f32 := roll1 v0 (roll v0 510#32 2#32 x)
/-- The stages at distances four, two and one. -/
def roll4 (v0 : IVec SC 32) (x : FVec F SB .f32) : FVec F SB .f32 := roll2 v0 (roll v0 508#32 4#32 x)

/-- The nine ascending stages 256, 128, …, 1 of a block. -/
def cascade (v0 : IVec SC 32) (x : FVec F SB .f32) : FVec F SB .f32 := roll4 v0 (halves 1 5 (by decide) (by decide) x)

/-- One or minus one by the bit `m` of the row number. -/
def sign (v0 : IVec SC 32) (m : BitVec 32) : FVec F SC .f32 :=
  select (clear v0 m) (broadcast SC (Scalar.ofBits .f32 0x3F800000#32)) (broadcast SC (Scalar.ofBits .f32 0xBF800000#32))

/-- Every row times its word of a column. -/
def scale (x : FVec F SB .f32) (s : FVec F SC .f32) : FVec F SB .f32 := mulf x (broadcastTo SB s)

/-- One or minus one by a direction bit. -/
def dir (up : BitVec 1) : F .f32 := Scalar.select up (Scalar.ofBits .f32 0x3F800000#32) (Scalar.ofBits .f32 0xBF800000#32)

/-- A block times its direction's sign. -/
def turn (up : BitVec 1) (x : FVec F SB .f32) : FVec F SB .f32 := mulf x (broadcast SB (dir up))

/-- Two successive signs in one. -/
def signs (v0 : IVec SC 32) (m m' : BitVec 32) : FVec F SC .f32 := mulf (sign v0 m) (sign v0 m')

/-- The first eight phases of the sort of a block: the runs of 2, 4, …, 256 rows sorted in alternating directions. -/
def phases (v0 : IVec SC 32) (x : FVec F SB .f32) : FVec F SB .f32 :=
  let x1 := roll1 v0 (scale x (sign v0 2#32))
  let x2 := roll2 v0 (scale x1 (signs v0 2#32 4#32))
  let x3 := roll4 v0 (scale x2 (signs v0 4#32 8#32))
  let x4 := roll4 v0 (halves 32 0 (by decide) (by decide) (scale x3 (signs v0 8#32 16#32)))
  let x5 := roll4 v0 (halves 16 1 (by decide) (by decide) (scale x4 (signs v0 16#32 32#32)))
  let x6 := roll4 v0 (halves 8 2 (by decide) (by decide) (scale x5 (signs v0 32#32 64#32)))
  let x7 := roll4 v0 (halves 4 3 (by decide) (by decide) (scale x6 (signs v0 64#32 128#32)))
  let x8 := roll4 v0 (halves 2 4 (by decide) (by decide) (scale x7 (signs v0 128#32 256#32)))
  scale x8 (sign v0 256#32)

/-- The sort of a block, ascending where `up` is one and descending where it is zero. -/
def sortBlock (v0 : IVec SC 32) (up : BitVec 1) (x : FVec F SB .f32) : FVec F SB .f32 :=
  turn up (cascade v0 (turn up (phases v0 x)))

/-- The lower block of a merging step of two blocks in direction `up`. -/
def mergeLow (v0 : IVec SC 32) (up : BitVec 1) (x y : FVec F SB .f32) : FVec F SB .f32 :=
  turn up (cascade v0 (minimumf (turn up x) (turn up y)))

/-- The upper block of it. -/
def mergeHigh (v0 : IVec SC 32) (up : BitVec 1) (x y : FVec F SB .f32) : FVec F SB .f32 :=
  turn up (cascade v0 (maximumf (turn up x) (turn up y)))

/-! ## The regions of the counted loops -/

section regions

variable {nD : Nat} {τ : Topo} {sig : RefSig} {Λ : Labels}

theorem pos_SB : 0 < SB.numel := by decide

/-- The rows `off …` of a buffer, a block of them. -/
abbrev rows (off : Fin 2 → ℕ) (h : ∀ a, off a + SB.size a ≤ SA.size a) : Rect SA := Rect.unit (s := SA) off SB.size h

/-- Reading a block. -/
abbrev readBlock (M : Memref sig .tc .vmem SA .f32) (off : Fin 2 → ℕ) (h : ∀ a, off a + SB.size a ≤ SA.size a) :
    Prog (TpuEff nD τ sig (Elt F) Λ .tc) (Vec F SB .f32) :=
  Prog.lift (.load M (rows off h).toLoadRect (View.loadsAt_vmem pos_SB))

/-- Writing a block: what was there is read first, and not used. -/
abbrev writeBlock (M : Memref sig .tc .vmem SA .f32) (off : Fin 2 → ℕ) (h : ∀ a, off a + SB.size a ≤ SA.size a) (x : FVec F SB .f32) :
    Prog (TpuEff nD τ sig (Elt F) Λ .tc) PUnit := do
  let _ ← readBlock M off h
  Prog.lift (.store M (rows off h) (shapeCast SB x (by decide)) Finset.univ (View.stores_vmem_bits_univ pos_SB rfl) (.inl rfl))

/-- One trip of the loop that sorts the blocks. -/
def sortTrip (v0 : IVec SC 32) (M : Memref sig .tc .vmem SA .f32) (off : Fin 2 → ℕ) (h : ∀ a, off a + SB.size a ≤ SA.size a)
    (up : BitVec 1) : Prog (TpuEff nD τ sig (Elt F) Λ .tc) PUnit := do
  let x ← readBlock M off h
  writeBlock M off h (sortBlock v0 up x)

/-- One trip of a loop that merges neighbouring blocks. -/
def mergeTrip (v0 : IVec SC 32) (M : Memref sig .tc .vmem SA .f32) (off off' : Fin 2 → ℕ) (h : ∀ a, off a + SB.size a ≤ SA.size a)
    (h' : ∀ a, off' a + SB.size a ≤ SA.size a) (up : BitVec 1) : Prog (TpuEff nD τ sig (Elt F) Λ .tc) PUnit := do
  let x ← readBlock M off h
  let y ← readBlock M off' h'
  writeBlock M off h (mergeLow v0 up x y)
  writeBlock M off' h' (mergeHigh v0 up x y)

/-- One trip of a loop that exchanges two blocks position by position. -/
def exchangeTrip (M : Memref sig .tc .vmem SA .f32) (off off' : Fin 2 → ℕ) (h : ∀ a, off a + SB.size a ≤ SA.size a)
    (h' : ∀ a, off' a + SB.size a ≤ SA.size a) (up : BitVec 1) : Prog (TpuEff nD τ sig (Elt F) Λ .tc) PUnit := do
  let x ← readBlock M off h
  let y ← readBlock M off' h'
  writeBlock M off h (Scalar.select up (minimumf x y) (maximumf x y))
  writeBlock M off' h' (Scalar.select up (maximumf x y) (minimumf x y))

/-- Division rounded down, as the programs compute it from division rounded to zero. -/
def floorDiv (a b : BitVec 32) : BitVec 32 :=
  Scalar.select
    (Scalar.andi
      (Scalar.cmpi .ne (Scalar.subi (Scalar.extui (Scalar.cmpi .sgt a 0#32)) (Scalar.extui (Scalar.cmpi .slt a 0#32)))
        (Scalar.subi (Scalar.extui (Scalar.cmpi .sgt b 0#32)) (Scalar.extui (Scalar.cmpi .slt b 0#32))))
      (Scalar.cmpi .ne (Scalar.remsi a b) 0#32))
    (Scalar.subi (Scalar.divsi a b) 1#32) (Scalar.divsi a b)

/-- Whether a number is even. -/
def evenBit (a : BitVec 32) : BitVec 1 := Scalar.cmpi .eq (Scalar.andi a 1#32) 0#32

/-- Whether the bit `s` of a number is clear. -/
def clearBit (a s : BitVec 32) : BitVec 1 := evenBit (Scalar.shrsi a s)

end regions

end Cert.Sort
-- ==== Proof.Program.lean ====
/-
  THE WHOLE KERNEL as one program over the block functions: the sort of one buffer in place, the sum of the squared differences of two
  buffers, and the launch's body that copies the two operands in, sorts both and stores the sum.
-/
module

public import proofs.«01_k».proof.Proof.Blocks

@[expose] public section

noncomputable section

namespace Cert.Sort

open Idealize.ShloMosaic Idealize.SL.Sem

variable {F : FTy → Type} [FloatOps F]

/-- The counted loops over `n` trips from zero. -/
abbrev loop (n : BitVec 32) : Scf.Loop 32 := ⟨0#32, n, 1#32⟩

/-- The value of the loop's variable at trip `k`. -/
abbrev trip (k : ℕ) : BitVec 32 := Scf.iv 0#32 1#32 k

theorem loop64_ok : (loop 64#32).OK := by decide
theorem loop32_ok : (loop 32#32).OK := by decide
theorem loop16_ok : (loop 16#32).OK := by decide

/-- The row at which block `k` begins. -/
def sortOff (k : ℕ) : Fin 2 → ℕ := ![(Scalar.indexCast (Scalar.muli (trip k) 512#32)).toNat, 0]

/-- The row at which the lower block of pair `k` of neighbouring blocks begins. -/
def lowOff (k : ℕ) : Fin 2 → ℕ := ![(Scalar.indexCast (Scalar.muli (Scalar.muli 2#32 (trip k)) 512#32)).toNat, 0]
/-- The row at which the upper block of it begins. -/
def highOff (k : ℕ) : Fin 2 → ℕ :=
  ![(Scalar.indexCast (Scalar.addi (Scalar.muli (Scalar.muli 2#32 (trip k)) 512#32) 512#32)).toNat, 0]

/-- The row at which the nearer block of pair `k` begins, the pairs being `2 ^ d` blocks apart. -/
def nearRow (d k : ℕ) : BitVec 32 :=
  let g := floorDiv (trip k) (BitVec.ofNat 32 (2 ^ d))
  Scalar.addi (Scalar.muli g (BitVec.ofNat 32 (1024 * 2 ^ d)))
    (Scalar.muli (Scalar.subi (trip k) (Scalar.muli g (BitVec.ofNat 32 (2 ^ d)))) 512#32)
/-- The same as an access's offsets. -/
def nearOff (d k : ℕ) : Fin 2 → ℕ := ![(Scalar.indexCast (nearRow d k)).toNat, 0]
/-- The farther block's offsets. -/
def farOff (d k : ℕ) : Fin 2 → ℕ := ![(Scalar.indexCast (Scalar.addi (nearRow d k) (BitVec.ofNat 32 (512 * 2 ^ d)))).toNat, 0]

/-- The row at which part `k` of the sum begins. -/
def sumOff (k : ℕ) : Fin 2 → ℕ := ![(Scalar.indexCast (Scalar.muli (trip k) 2048#32)).toNat, 0]

/-- The direction of block `k`'s sort. -/
def sortUp (k : ℕ) : BitVec 1 := evenBit (trip k)
/-- The direction of pair `k` of neighbouring blocks in the level that merges runs of `2 ^ s` blocks. -/
def mergeUp (s k : ℕ) : BitVec 1 := clearBit (trip k) (BitVec.ofNat 32 s)
/-- The direction of pair `k` of blocks `2 ^ d` apart in that level. -/
def exchangeUp (s d k : ℕ) : BitVec 1 := clearBit (floorDiv (trip k) (BitVec.ofNat 32 (2 ^ d))) (BitVec.ofNat 32 (s - d))

/-- The offsets in closed form, -/
theorem sortOff_eq : ∀ k : Fin 64, (Scalar.indexCast (Scalar.muli (trip k) 512#32)).toNat = 512 * k.val := by decide +kernel
theorem lowOff_eq : ∀ k : Fin 32, (Scalar.indexCast (Scalar.muli (Scalar.muli 2#32 (trip k)) 512#32)).toNat = 512 * (2 * k.val) := by
  decide +kernel
theorem highOff_eq : ∀ k : Fin 32,
    (Scalar.indexCast (Scalar.addi (Scalar.muli (Scalar.muli 2#32 (trip k)) 512#32) 512#32)).toNat = 512 * (2 * k.val + 1) := by
  decide +kernel
theorem nearOff_eq : ∀ d : Fin 6, ∀ k : Fin 32,
    (Scalar.indexCast (nearRow d k)).toNat = 512 * (k.val / 2 ^ d.val * 2 ^ (d.val + 1) + k.val % 2 ^ d.val) := by decide +kernel
theorem farOff_eq : ∀ d : Fin 6, ∀ k : Fin 32,
    (Scalar.indexCast (Scalar.addi (nearRow d k) (BitVec.ofNat 32 (512 * 2 ^ d.val)))).toNat
      = 512 * (k.val / 2 ^ d.val * 2 ^ (d.val + 1) + k.val % 2 ^ d.val + 2 ^ d.val) := by decide +kernel
theorem sumOff_eq : ∀ k : Fin 16, (Scalar.indexCast (Scalar.muli (trip k) 2048#32)).toNat = 2048 * k.val := by decide +kernel

/-- A block at a multiple of 512 rows lies in the buffer. -/
theorem rows_inb {o b : ℕ} (h : o = 512 * b) (hb : b < 64) : ∀ a, (![o, 0] : Fin 2 → ℕ) a + SB.size a ≤ SA.size a := by
  intro a
  fin_cases a
  · show o + 512 ≤ 32768; omega
  · show 0 + 128 ≤ 128; omega

theorem sortOff_inb (k : Fin 64) : ∀ a, sortOff k a + SB.size a ≤ SA.size a := rows_inb (sortOff_eq k) k.isLt
theorem lowOff_inb (k : Fin 32) : ∀ a, lowOff k a + SB.size a ≤ SA.size a := rows_inb (lowOff_eq k) (by have := k.isLt; omega)
theorem highOff_inb (k : Fin 32) : ∀ a, highOff k a + SB.size a ≤ SA.size a := rows_inb (highOff_eq k) (by have := k.isLt; omega)

/-- The block numbers of the pairs stay below the number of blocks. -/
theorem far_lt : ∀ d : Fin 6, ∀ k : Fin 32, k.val / 2 ^ d.val * 2 ^ (d.val + 1) + k.val % 2 ^ d.val + 2 ^ d.val < 64 := by decide

theorem nearOff_inb (d : Fin 6) (k : Fin 32) : ∀ a, nearOff d k a + SB.size a ≤ SA.size a :=
  rows_inb (nearOff_eq d k) (lt_of_le_of_lt (Nat.le_add_right _ _) (far_lt d k))
theorem farOff_inb (d : Fin 6) (k : Fin 32) : ∀ a, farOff d k a + SB.size a ≤ SA.size a := rows_inb (farOff_eq d k) (far_lt d k)

/-- The rows that one part of the sum reads. -/
abbrev SS : Shape := ⟨2, ![2048, 128]⟩
theorem pos_SS : 0 < SS.numel := by decide
theorem sumOff_inb (k : Fin 16) : ∀ a, sumOff k a + SS.size a ≤ SA.size a := by
  intro a
  have := k.isLt
  fin_cases a
  · show (Scalar.indexCast (Scalar.muli (trip k) 2048#32)).toNat + 2048 ≤ 32768; rw [sumOff_eq k]; omega
  · show 0 + 128 ≤ 128; omega

/-- The sum of the squared differences of two runs of 2048 rows. -/
def squares (x y : FVec F SS .f32) : F .f32 :=
  extractAt ![0, 0, 0]
    (shapeCast (⟨3, ![1, 1, 1]⟩ : Shape)
      (multiReduction .add [1, 2] (⟨1, ![1]⟩ : Shape) (shapeCast (⟨3, ![1, 2048, 128]⟩ : Shape) (mulf (subf x y) (subf x y)) (by decide)) 0x00000000#32
        (by decide) (.inl rfl) rfl) (by decide)) (by decide)

section program

variable {nD : Nat} {τ : Topo} {sig : RefSig} {Λ : Labels}

/-- The loop that sorts the 64 blocks. -/
def sortLoop (v0 : IVec SC 32) (M : Memref sig .tc .vmem SA .f32) : Prog (TpuEff nD τ sig (Elt F) Λ .tc) PUnit :=
  Scf.Loop.for (loop 64#32) loop64_ok ⟨⟩ fun k _ => sortTrip v0 M (sortOff k) (sortOff_inb k) (sortUp k)

/-- The loop that merges neighbouring blocks in the level of runs of `2 ^ s` blocks. -/
def mergeLoop (v0 : IVec SC 32) (M : Memref sig .tc .vmem SA .f32) (s : ℕ) : Prog (TpuEff nD τ sig (Elt F) Λ .tc) PUnit :=
  Scf.Loop.for (loop 32#32) loop32_ok ⟨⟩ fun k _ => mergeTrip v0 M (lowOff k) (highOff k) (lowOff_inb k) (highOff_inb k) (mergeUp s k)

/-- The loop that exchanges blocks `2 ^ d` apart in that level. -/
def exchangeLoop (M : Memref sig .tc .vmem SA .f32) (s : ℕ) (d : Fin 6) : Prog (TpuEff nD τ sig (Elt F) Λ .tc) PUnit :=
  Scf.Loop.for (loop 32#32) loop32_ok ⟨⟩ fun k _ =>
    exchangeTrip M (nearOff d k) (farOff d k) (nearOff_inb d k) (farOff_inb d k) (exchangeUp s d k)

/-- The sort of a buffer: its blocks, then six levels of merges, runs of one, two, four, … blocks. -/
def sortProg (v0 : IVec SC 32) (M : Memref sig .tc .vmem SA .f32) : Prog (TpuEff nD τ sig (Elt F) Λ .tc) PUnit := do
  sortLoop v0 M
  mergeLoop v0 M 0
  exchangeLoop M 1 1
  mergeLoop v0 M 1
  exchangeLoop M 2 2
  exchangeLoop M 2 1
  mergeLoop v0 M 2
  exchangeLoop M 3 3
  exchangeLoop M 3 2
  exchangeLoop M 3 1
  mergeLoop v0 M 3
  exchangeLoop M 4 4
  exchangeLoop M 4 3
  exchangeLoop M 4 2
  exchangeLoop M 4 1
  mergeLoop v0 M 4
  exchangeLoop M 5 5
  exchangeLoop M 5 4
  exchangeLoop M 5 3
  exchangeLoop M 5 2
  exchangeLoop M 5 1
  mergeLoop v0 M 5

/-- The loop that sums the squared differences of two buffers. -/
def sumLoop (M N : Memref sig .tc .vmem SA .f32) : Prog (TpuEff nD τ sig (Elt F) Λ .tc) (F .f32) :=
  Scf.Loop.for (loop 16#32) loop16_ok (Scalar.ofBits .f32 0x00000000#32) fun k acc => do
    let x : Vec F SS .f32 ← Prog.lift (.load M (Rect.unit (s := SA) (sumOff k) SS.size (sumOff_inb k)).toLoadRect (View.loadsAt_vmem pos_SS))
    let y : Vec F SS .f32 ← Prog.lift (.load N (Rect.unit (s := SA) (sumOff k) SS.size (sumOff_inb k)).toLoadRect (View.loadsAt_vmem pos_SS))
    pure (Scalar.addf acc (squares x y))

/-- The row numbers of a block. -/
def rowNumbers : IVec SC 32 := iota .tc SC 32 [0] (by decide)

/-- The one word of the result. -/
abbrev S11 : Shape := ⟨2, ![1, 1]⟩

/-- The launch's body: both operands copied in, each sorted once its copy has landed, the sum of the squared differences stored. -/
def body (A B : Memref sig .tc .hbm SA .f32) (hA : A.IsWhole) (hB : B.IsWhole) (O : Memref sig .tc .smem S11 .f32)
    (M N : Memref sig .tc .vmem SA .f32) (hM : M.IsWhole) (hN : N.IsWhole) (s t : DmaSem sig) :
    Prog (TpuEff nD τ sig (Elt F) Λ .tc) PUnit := do
  Prog.lift (.enqueueDma A (.here M) (.dma s) hA.wordExact hM.wordExact ⟨Or.inl rfl, trivial⟩)
  Prog.lift (.enqueueDma B (.here N) (.dma t) hB.wordExact hN.wordExact ⟨Or.inl rfl, trivial⟩)
  Prog.lift (.waitDma2 s A M hA.wordExact hM.wordExact)
  sortProg rowNumbers M
  Prog.lift (.waitDma2 t B N hB.wordExact hN.wordExact)
  sortProg rowNumbers N
  let w : F .f32 ← sumLoop M N
  let _ : Elt F .f32 ← smemLoad O (Rect.unit (s := S11) ![0, 0] S11.size (by decide)) (by decide) rfl
  Prog.lift (.store O (Rect.unit (s := S11) ![0, 0] S11.size (by decide)) (fun _ => w) Finset.univ (View.stores_smem_one rfl (by decide)) (.inl rfl))

end program

end Cert.Sort
-- ==== Proof.Positions.lean ====
/-
  THE BLOCKS OF A BUFFER: a buffer of 32768 rows as 64 blocks of 512, and what one read or write of a block is of them. The loops' pairs of
  blocks are those whose numbers differ in one bit.
-/
module

public import proofs.«01_k».proof.Proof.Program

@[expose] public section

noncomputable section

namespace Cert.Sort

open Idealize.ShloMosaic Idealize.SL.Sem

variable {α : Type}

theorem block_inb (b : Fin 64) : ∀ a, (![512 * b.val, 0] : Fin 2 → ℕ) a + SB.size a ≤ SA.size a := rows_inb rfl b.isLt

/-- The place in the buffer of an index of block `b`. -/
def place (b : Fin 64) (i : SB.Idx) : SA.Idx := (rows ![512 * b.val, 0] (block_inb b)).emb i

/-- The blocks of a buffer's contents. -/
def blocks (X : SA.Idx → α) (b : Fin 64) : SB.Idx → α := fun i => X (place b i)

theorem place_row (b : Fin 64) (i : SB.Idx) : (place b i 0 : ℕ) = 512 * b.val + (i 0 : ℕ) := by
  show 512 * b.val + 1 * (i 0 : ℕ) = _
  rw [Nat.one_mul]

theorem place_lane (b : Fin 64) (i : SB.Idx) : (place b i 1 : ℕ) = (i 1 : ℕ) := by
  show 0 + 1 * (i 1 : ℕ) = _
  omega

/-- Different blocks share no place. -/
theorem place_ne {b b' : Fin 64} (h : b ≠ b') (i i' : SB.Idx) : place b i ≠ place b' i' := by
  intro he
  have h0 := congrArg (fun x : SA.Idx => (x 0 : ℕ)) he
  simp only [place_row] at h0
  have := (i 0).isLt
  have := (i' 0).isLt
  have h1 : (i 0 : ℕ) < 512 := (i 0).isLt
  have h2 : (i' 0 : ℕ) < 512 := (i' 0).isLt
  exact h (Fin.ext (by omega))

section view

variable {κ : Kind} {sp : Space} {sig : RefSig} {Val : EltTy → Type} (v : View sig κ sp SA .f32)

/-- Reading through the rows of block `b` reads that block. -/
theorem read_rows {o : ℕ} (b : Fin 64) (ho : o = 512 * b.val) (h : ∀ a, (![o, 0] : Fin 2 → ℕ) a + SB.size a ≤ SA.size a)
    (f : v.ty.Contents Val) : (v.slice (rows ![o, 0] h)).read Val f = blocks (v.read Val f) b := by
  subst ho
  rfl

/-- Writing through the rows of block `b` changes that block only. -/
theorem blocks_write_rows {o : ℕ} (b : Fin 64) (ho : o = 512 * b.val) (h : ∀ a, (![o, 0] : Fin 2 → ℕ) a + SB.size a ≤ SA.size a)
    (f : v.ty.Contents Val) (w : SB.Idx → Val .f32) :
    blocks (v.read Val ((v.slice (rows ![o, 0] h)).write Val f w Finset.univ)) = Function.update (blocks (v.read Val f)) b w := by
  subst ho
  funext b' i
  by_cases hb : b' = b
  · subst hb
    rw [Function.update_self]
    exact View.read_slice_write_emb (v := v) (rows ![512 * b'.val, 0] (block_inb b')) f w (M := Finset.univ) (x := i) (Finset.mem_univ i)
  · rw [Function.update_of_ne hb]
    refine View.read_slice_write_of_not_mem (v := v) (rows ![512 * b.val, 0] (block_inb b)) f w Finset.univ (y := place b' i) ?_
    intro hm'
    have hm : place b' i ∈ Finset.univ.map (rows ![512 * b.val, 0] (block_inb b)).emb := hm'
    obtain ⟨i', -, he⟩ := Finset.mem_map.mp hm
    exact place_ne hb i i' he.symm

end view

/-! ## The pairs -/

/-- The pair that block `b` is in, the pairs `2 ^ d` blocks apart. -/
def pairOf (d : Fin 6) (b : Fin 64) : Fin 32 := ⟨b.val / 2 ^ (d.val + 1) * 2 ^ d.val + b.val % 2 ^ d.val, by revert d b; decide +kernel⟩
/-- The nearer block of a pair, -/
def near (d : Fin 6) (k : Fin 32) : Fin 64 :=
  ⟨k.val / 2 ^ d.val * 2 ^ (d.val + 1) + k.val % 2 ^ d.val, lt_of_le_of_lt (Nat.le_add_right _ _) (far_lt d k)⟩
/-- the farther one. -/
def far (d : Fin 6) (k : Fin 32) : Fin 64 := ⟨k.val / 2 ^ d.val * 2 ^ (d.val + 1) + k.val % 2 ^ d.val + 2 ^ d.val, far_lt d k⟩
/-- Whether a block is the farther one of its pair. -/
def isFar (d : Fin 6) (b : Fin 64) : Bool := b.val.testBit d.val

/-- Neighbouring blocks. -/
theorem near_zero : ∀ k : Fin 32, 512 * (near 0 k).val = 512 * (2 * k.val) := by decide +kernel
theorem far_zero : ∀ k : Fin 32, 512 * (far 0 k).val = 512 * (2 * k.val + 1) := by decide +kernel

theorem pairOf_near : ∀ (d : Fin 6) (k : Fin 32), pairOf d (near d k) = k := by decide +kernel
theorem pairOf_far : ∀ (d : Fin 6) (k : Fin 32), pairOf d (far d k) = k := by decide +kernel
theorem isFar_near : ∀ (d : Fin 6) (k : Fin 32), isFar d (near d k) = false := by decide +kernel
theorem isFar_far : ∀ (d : Fin 6) (k : Fin 32), isFar d (far d k) = true := by decide +kernel
theorem near_pairOf : ∀ (d : Fin 6) (b : Fin 64), isFar d b = false → near d (pairOf d b) = b := by decide +kernel
theorem far_pairOf : ∀ (d : Fin 6) (b : Fin 64), isFar d b = true → far d (pairOf d b) = b := by decide +kernel

/-- The blocks after the first `n` pairs have been replaced, each by two functions of itself. -/
def pairs (d : Fin 6) (lo hi : Fin 32 → (SB.Idx → α) → (SB.Idx → α) → SB.Idx → α) (n : ℕ) (B : Fin 64 → SB.Idx → α) :
    Fin 64 → SB.Idx → α := fun b =>
  if (pairOf d b).val < n then
    bif isFar d b then hi (pairOf d b) (B (near d (pairOf d b))) (B (far d (pairOf d b)))
    else lo (pairOf d b) (B (near d (pairOf d b))) (B (far d (pairOf d b)))
  else B b

/-- No pair replaced, nothing changes. -/
theorem pairs_zero (d : Fin 6) (lo hi : Fin 32 → (SB.Idx → α) → (SB.Idx → α) → SB.Idx → α) (B : Fin 64 → SB.Idx → α) :
    pairs d lo hi 0 B = B := rfl

/-- One more pair is two updates. -/
theorem pairs_succ (d : Fin 6) (lo hi : Fin 32 → (SB.Idx → α) → (SB.Idx → α) → SB.Idx → α) (k : Fin 32) (B : Fin 64 → SB.Idx → α) :
    pairs d lo hi (k.val + 1) B
      = Function.update (Function.update (pairs d lo hi k.val B) (near d k)
            (lo k (pairs d lo hi k.val B (near d k)) (pairs d lo hi k.val B (far d k))))
          (far d k) (hi k (pairs d lo hi k.val B (near d k)) (pairs d lo hi k.val B (far d k))) := by
  have hn : pairs d lo hi k.val B (near d k) = B (near d k) := by
    unfold pairs; rw [pairOf_near, if_neg (lt_irrefl _)]
  have hf : pairs d lo hi k.val B (far d k) = B (far d k) := by
    unfold pairs; rw [pairOf_far, if_neg (lt_irrefl _)]
  rw [hn, hf]
  funext b
  by_cases h : pairOf d b = k
  · cases hb : isFar d b with
    | false =>
      obtain rfl : b = near d k := by rw [← h]; exact (near_pairOf d b hb).symm
      have hne : near d k ≠ far d k := fun he => by
        rw [he, isFar_far] at hb
        exact Bool.noConfusion hb
      rw [Function.update_of_ne hne, Function.update_self]
      unfold pairs
      rw [pairOf_near, isFar_near, if_pos (Nat.lt_succ_self _), cond_false]
    | true =>
      obtain rfl : b = far d k := by rw [← h]; exact (far_pairOf d b hb).symm
      rw [Function.update_self]
      unfold pairs
      rw [pairOf_far, isFar_far, if_pos (Nat.lt_succ_self _), cond_true]
  · have h1 : b ≠ near d k := fun he => h (he ▸ pairOf_near d k)
    have h2 : b ≠ far d k := fun he => h (he ▸ pairOf_far d k)
    rw [Function.update_of_ne h2, Function.update_of_ne h1]
    unfold pairs
    have hv : (pairOf d b).val ≠ k.val := fun he => h (Fin.ext he)
    by_cases hlt : (pairOf d b).val < k.val
    · rw [if_pos hlt, if_pos (by omega)]
    · rw [if_neg hlt, if_neg (by omega)]

/-- The blocks after the first `n` have been replaced, each by a function of itself. -/
def each (f : Fin 64 → (SB.Idx → α) → SB.Idx → α) (n : ℕ) (B : Fin 64 → SB.Idx → α) : Fin 64 → SB.Idx → α := fun b =>
  if b.val < n then f b (B b) else B b

theorem each_zero (f : Fin 64 → (SB.Idx → α) → SB.Idx → α) (B : Fin 64 → SB.Idx → α) : each f 0 B = B := rfl

/-- One more block is one update. -/
theorem each_succ (f : Fin 64 → (SB.Idx → α) → SB.Idx → α) (k : Fin 64) (B : Fin 64 → SB.Idx → α) :
    each f (k.val + 1) B = Function.update (each f k.val B) k (f k (each f k.val B k)) := by
  have hk : each f k.val B k = B k := by unfold each; rw [if_neg (lt_irrefl _)]
  rw [hk]
  funext b
  by_cases h : b = k
  · subst h
    rw [Function.update_self]
    unfold each
    rw [if_pos (Nat.lt_succ_self _)]
  · rw [Function.update_of_ne h]
    unfold each
    have hv : b.val ≠ k.val := fun he => h (Fin.ext he)
    by_cases hlt : b.val < k.val
    · rw [if_pos hlt, if_pos (by omega)]
    · rw [if_neg hlt, if_neg (by omega)]

end Cert.Sort
-- ==== Proof.Runs.lean ====
/-
  THE RUN OF THE SORT of one buffer: each trip, each loop and the whole sequence of loops takes a buffer owned at its blocks to the same
  buffer owned at the blocks' images.
-/
module

public import proofs.«01_k».proof.Proof.Positions
public import Idealize.ShloMosaic.Lib.Tactic
public import Idealize.ShloMosaic.Lib.Pipeline.FrameSuffix
public import Idealize.ShloMosaic.Lib.Pipeline.Value

@[expose] public section

noncomputable section

namespace Cert.Sort

open Idealize.ShloMosaic Idealize.ShloMosaic.TcCoe
open Idealize.SL Idealize.SL.RA Idealize.SL.Sem
open Idealize.SL.BI (sProp)
open scoped Idealize.SL.BI
open Idealize.SL.BI.BIBase Idealize.SL.BI.Laws Idealize.SL.ProofMode

variable {F : FTy → Type} [FloatOps F]

/-! ## What the loops make of the blocks -/

/-- The blocks sorted, in alternating directions. -/
def sortAll (v0 : IVec SC 32) (B : Fin 64 → FVec F SB .f32) : Fin 64 → FVec F SB .f32 :=
  each (fun b x => sortBlock v0 (sortUp b) x) 64 B

/-- The blocks after the merging loop of the level of runs of `2 ^ s` blocks. -/
def mergeAll (v0 : IVec SC 32) (s : ℕ) (B : Fin 64 → FVec F SB .f32) : Fin 64 → FVec F SB .f32 :=
  pairs 0 (fun k x y => mergeLow v0 (mergeUp s k) x y) (fun k x y => mergeHigh v0 (mergeUp s k) x y) 32 B

/-- The blocks after the loop that exchanges blocks `2 ^ d` apart in that level. -/
def exchangeAll (s : ℕ) (d : Fin 6) (B : Fin 64 → FVec F SB .f32) : Fin 64 → FVec F SB .f32 :=
  pairs d (fun k x y => Scalar.select (exchangeUp s d k) (minimumf x y) (maximumf x y))
    (fun k x y => Scalar.select (exchangeUp s d k) (maximumf x y) (minimumf x y)) 32 B

/-- The blocks after the whole sort. -/
def sortedBlocks (v0 : IVec SC 32) (B : Fin 64 → FVec F SB .f32) : Fin 64 → FVec F SB .f32 :=
  let B := mergeAll v0 0 (sortAll v0 B)
  let B := mergeAll v0 1 (exchangeAll 1 1 B)
  let B := mergeAll v0 2 (exchangeAll 2 1 (exchangeAll 2 2 B))
  let B := mergeAll v0 3 (exchangeAll 3 1 (exchangeAll 3 2 (exchangeAll 3 3 B)))
  let B := mergeAll v0 4 (exchangeAll 4 1 (exchangeAll 4 2 (exchangeAll 4 3 (exchangeAll 4 4 B))))
  mergeAll v0 5 (exchangeAll 5 1 (exchangeAll 5 2 (exchangeAll 5 3 (exchangeAll 5 4 (exchangeAll 5 5 B)))))

/-- Rows `2048 * k` to `2048 * k + 2047` of a buffer's contents. -/
def part (X : SA.Idx → F .f32) (k : Fin 16) : FVec F SS .f32 :=
  fun i => X ((Rect.unit (s := SA) (sumOff k) SS.size (sumOff_inb k)).emb i)

/-- The sum over the first `n` parts of two buffers' contents. -/
def total (X Y : SA.Idx → F .f32) : ℕ → F .f32
  | 0 => Scalar.ofBits .f32 0x00000000#32
  | n + 1 => if h : n < 16 then Scalar.addf (total X Y n) (squares (part X ⟨n, h⟩) (part Y ⟨n, h⟩)) else total X Y n

/-! ## The rules -/

section rules

variable {nD : Nat} {τ : Topo} {sig : RefSig} {Λ : Labels} {defs : Defs nD τ sig (Elt F) Λ} (𝒱 : Variants) (c : Dev nD) (bd : Option 𝒱.V) (E : Set ℕ)

local notation "𝕄" => MT nD τ sig Unit (Elt F) ℕ (Pipeline.UD sig nD τ) ℕ

/-- A buffer owned at the blocks `B`. -/
def has (c : Dev nD) (M : Memref sig .tc .vmem SA .f32) (B : Fin 64 → FVec F SB .f32) : sProp 𝕄 :=
  iprop(∃ f, ⌜blocks (M.view.read (Elt F) f) = B⌝ ∗ (M.view.loc (c : Thread nD τ) ↦[M.view.set]{fullShare} f))

variable {M : Memref sig .tc .vmem SA .f32} {B : Fin 64 → FVec F SB .f32}

/-- A program that has ended. -/
theorem wp_done {α : Type} {Q : α → sProp 𝕄} {w : α} :
    Q w ⊢ wp frame (wpE defs 𝒱 (c : Thread nD τ) bd) E (.ret w) Q := by
  rw [wp_ret]
  iintro H
  imodintro
  iexact H

/-- Reading a block gives it. -/
theorem wp_readBlock {α : Type} {Q : α → sProp 𝕄} (b : Fin 64) {o : ℕ} (ho : o = 512 * b.val) (h : ∀ a, (![o, 0] : Fin 2 → ℕ) a + SB.size a ≤ SA.size a)
    (k : Vec F SB .f32 → Prog (TpuEff nD τ sig (Elt F) Λ .tc) α) :
    has c M B ⊢ iprop((has c M B -∗ wp frame (wpE defs 𝒱 (c : Thread nD τ) bd) E (k (B b)) Q)
      -∗ wp frame (wpE defs 𝒱 (c : Thread nD τ) bd) E (readBlock M ![o, 0] h >>= k) Q) := by
  unfold has
  iintro ⟨%f, %hf, H⟩ HK
  subst hf
  rw [← read_rows M.view b ho h f]
  iapply (wp_load_rect (c := (c : Thread nD τ)) 𝒱 bd E (m := M) (r := rows ![o, 0] h) (k := k) (View.set_slice_subset _ _)) $$ H
  iintro H
  iapply HK
  iexists f
  isplitr
  · ipureintro; rfl
  · iexact H

/-- Writing a block replaces it. -/
theorem wp_writeBlock {α : Type} {Q : α → sProp 𝕄} (b : Fin 64) {o : ℕ} (ho : o = 512 * b.val) (h : ∀ a, (![o, 0] : Fin 2 → ℕ) a + SB.size a ≤ SA.size a)
    (w : FVec F SB .f32) (k : PUnit → Prog (TpuEff nD τ sig (Elt F) Λ .tc) α) :
    has c M B ⊢ iprop((has c M (Function.update B b w) -∗ wp frame (wpE defs 𝒱 (c : Thread nD τ) bd) E (k ⟨⟩) Q)
      -∗ wp frame (wpE defs 𝒱 (c : Thread nD τ) bd) E (writeBlock M ![o, 0] h w >>= k) Q) := by
  iintro H HK
  rw [writeBlock, bind_assoc]
  iapply (wp_readBlock 𝒱 c bd E b ho h) $$ H
  unfold has
  iintro ⟨%f, %hf, H⟩
  subst hf
  iapply (wp_store (c := (c : Thread nD τ)) 𝒱 bd E (m := M) (r := rows ![o, 0] h) (k := k) (by rw [View.setOn_univ]; exact View.set_slice_subset _ _)) $$ H
  iintro H
  iapply HK
  iexists _
  isplitr
  swap
  · iexact H
  · ipureintro
    rw [shapeCast_self]
    exact blocks_write_rows M.view b ho h f w

/-- A write at the end of a program. -/
theorem wp_writeBlock_last (b : Fin 64) {o : ℕ} (ho : o = 512 * b.val) (h : ∀ a, (![o, 0] : Fin 2 → ℕ) a + SB.size a ≤ SA.size a)
    (w : FVec F SB .f32) :
    has c M B ⊢ wp frame (wpE defs 𝒱 (c : Thread nD τ) bd) E (writeBlock M ![o, 0] h w)
      (fun _ => has (F := F) (τ := τ) c M (Function.update B b w)) := by
  iintro H
  rw [← bind_pure (writeBlock M ![o, 0] h _)]
  iapply (wp_writeBlock 𝒱 c bd E b ho h) $$ H
  iintro H
  rw [show (pure PUnit.unit : Prog (TpuEff nD τ sig (Elt F) Λ .tc) PUnit) = .ret ⟨⟩ from rfl, wp_ret]
  imodintro
  iexact H

/-- A trip of the loop that sorts the blocks. -/
theorem wp_sortTrip (v0 : IVec SC 32) (b : Fin 64) {o : ℕ} (ho : o = 512 * b.val)
    (h : ∀ a, (![o, 0] : Fin 2 → ℕ) a + SB.size a ≤ SA.size a) (up : BitVec 1) :
    has c M B ⊢ wp frame (wpE defs 𝒱 (c : Thread nD τ) bd) E (sortTrip v0 M ![o, 0] h up)
      (fun _ => has (F := F) (τ := τ) c M (Function.update B b (sortBlock v0 up (B b)))) := by
  iintro H
  unfold sortTrip
  iapply (wp_readBlock 𝒱 c bd E b ho h) $$ H
  iintro H
  iapply (wp_writeBlock_last 𝒱 c bd E b ho h) $$ H

/-- A trip of a loop that merges two blocks. -/
theorem wp_mergeTrip (v0 : IVec SC 32) (b b' : Fin 64) {o o' : ℕ} (ho : o = 512 * b.val) (ho' : o' = 512 * b'.val)
    (h : ∀ a, (![o, 0] : Fin 2 → ℕ) a + SB.size a ≤ SA.size a) (h' : ∀ a, (![o', 0] : Fin 2 → ℕ) a + SB.size a ≤ SA.size a)
    (up : BitVec 1) :
    has c M B ⊢ wp frame (wpE defs 𝒱 (c : Thread nD τ) bd) E (mergeTrip v0 M ![o, 0] ![o', 0] h h' up)
      (fun _ => has (F := F) (τ := τ) c M (Function.update (Function.update B b (mergeLow v0 up (B b) (B b')))
        b' (mergeHigh v0 up (B b) (B b')))) := by
  iintro H
  unfold mergeTrip
  iapply (wp_readBlock 𝒱 c bd E b ho h) $$ H
  iintro H
  iapply (wp_readBlock 𝒱 c bd E b' ho' h') $$ H
  iintro H
  iapply (wp_writeBlock 𝒱 c bd E b ho h) $$ H
  iintro H
  iapply (wp_writeBlock_last 𝒱 c bd E b' ho' h') $$ H

/-- A trip of a loop that exchanges two blocks. -/
theorem wp_exchangeTrip (b b' : Fin 64) {o o' : ℕ} (ho : o = 512 * b.val) (ho' : o' = 512 * b'.val)
    (h : ∀ a, (![o, 0] : Fin 2 → ℕ) a + SB.size a ≤ SA.size a) (h' : ∀ a, (![o', 0] : Fin 2 → ℕ) a + SB.size a ≤ SA.size a)
    (up : BitVec 1) :
    has c M B ⊢ wp frame (wpE defs 𝒱 (c : Thread nD τ) bd) E (exchangeTrip M ![o, 0] ![o', 0] h h' up)
      (fun _ => has (F := F) (τ := τ) c M (Function.update (Function.update B b
          (Scalar.select up (minimumf (B b) (B b')) (maximumf (B b) (B b'))))
        b' (Scalar.select up (maximumf (B b) (B b')) (minimumf (B b) (B b'))))) := by
  iintro H
  unfold exchangeTrip
  iapply (wp_readBlock 𝒱 c bd E b ho h) $$ H
  iintro H
  iapply (wp_readBlock 𝒱 c bd E b' ho' h') $$ H
  iintro H
  iapply (wp_writeBlock 𝒱 c bd E b ho h) $$ H
  iintro H
  iapply (wp_writeBlock_last 𝒱 c bd E b' ho' h') $$ H

/-- The loop that sorts the blocks. -/
theorem wp_sortLoop (v0 : IVec SC 32) :
    has c M B ⊢ wp frame (wpE defs 𝒱 (c : Thread nD τ) bd) E (sortLoop v0 M)
      (fun _ => has (F := F) (τ := τ) c M (sortAll v0 B)) := by
  iintro H
  unfold sortLoop sortAll
  iapply (Scf.wp_for frame (wpE defs 𝒱 (c : Thread nD τ) bd) E 0#32 64#32 1#32 loop64_ok PUnit.unit
    (fun k _ => sortTrip v0 M (sortOff k) (sortOff_inb k) (sortUp k))
    (fun n _ => has (F := F) (τ := τ) c M (each (fun b x => sortBlock v0 (sortUp b) x) n B)) (by
      intro k _
      have h := each_succ (fun b x => sortBlock v0 (sortUp b) x) k B
      rw [h]
      exact wp_sortTrip 𝒱 c bd E v0 k (sortOff_eq k) _ _))
  isplitl
  · iexact H
  · iintro %_ H
    iexact H

/-- The loop that merges neighbouring blocks. -/
theorem wp_mergeLoop (v0 : IVec SC 32) (s : ℕ) :
    has c M B ⊢ wp frame (wpE defs 𝒱 (c : Thread nD τ) bd) E (mergeLoop v0 M s)
      (fun _ => has (F := F) (τ := τ) c M (mergeAll v0 s B)) := by
  iintro H
  unfold mergeLoop mergeAll
  iapply (Scf.wp_for frame (wpE defs 𝒱 (c : Thread nD τ) bd) E 0#32 32#32 1#32 loop32_ok PUnit.unit
    (fun k _ => mergeTrip v0 M (lowOff k) (highOff k) (lowOff_inb k) (highOff_inb k) (mergeUp s k))
    (fun n _ => has (F := F) (τ := τ) c M
      (pairs 0 (fun k x y => mergeLow v0 (mergeUp s k) x y) (fun k x y => mergeHigh v0 (mergeUp s k) x y) n B)) (by
      intro k _
      have h := pairs_succ 0 (fun k x y => mergeLow v0 (mergeUp s k) x y) (fun k x y => mergeHigh v0 (mergeUp s k) x y) k B
      rw [h]
      exact wp_mergeTrip 𝒱 c bd E v0 (near 0 k) (far 0 k) ((lowOff_eq k).trans (near_zero k).symm) ((highOff_eq k).trans (far_zero k).symm) _ _ _))
  isplitl
  · iexact H
  · iintro %_ H
    iexact H

/-- A loop that exchanges blocks. -/
theorem wp_exchangeLoop (s : ℕ) (d : Fin 6) :
    has c M B ⊢ wp frame (wpE defs 𝒱 (c : Thread nD τ) bd) E (exchangeLoop M s d)
      (fun _ => has (F := F) (τ := τ) c M (exchangeAll s d B)) := by
  iintro H
  unfold exchangeLoop exchangeAll
  iapply (Scf.wp_for frame (wpE defs 𝒱 (c : Thread nD τ) bd) E 0#32 32#32 1#32 loop32_ok PUnit.unit
    (fun k _ => exchangeTrip M (nearOff d k) (farOff d k) (nearOff_inb d k) (farOff_inb d k) (exchangeUp s d k))
    (fun n _ => has (F := F) (τ := τ) c M
      (pairs d (fun k x y => Scalar.select (exchangeUp s d k) (minimumf x y) (maximumf x y))
        (fun k x y => Scalar.select (exchangeUp s d k) (maximumf x y) (minimumf x y)) n B)) (by
      intro k _
      have h := pairs_succ d (fun k x y => Scalar.select (exchangeUp s d k) (minimumf x y) (maximumf x y))
        (fun k x y => Scalar.select (exchangeUp s d k) (maximumf x y) (minimumf x y)) k B
      rw [h]
      exact wp_exchangeTrip 𝒱 c bd E (near d k) (far d k) (nearOff_eq d k) (farOff_eq d k) _ _ _))
  isplitl
  · iexact H
  · iintro %_ H
    iexact H

/-- Two programs in turn, each described by what it leaves in the buffer. -/
theorem wp_then {p p' : Prog (TpuEff nD τ sig (Elt F) Λ .tc) PUnit} {B' B'' : Fin 64 → FVec F SB .f32}
    (h : has c M B ⊢ wp frame (wpE defs 𝒱 (c : Thread nD τ) bd) E p (fun _ => has (F := F) (τ := τ) c M B'))
    (h' : has c M B' ⊢ wp frame (wpE defs 𝒱 (c : Thread nD τ) bd) E p' (fun _ => has (F := F) (τ := τ) c M B'')) :
    has c M B ⊢ wp frame (wpE defs 𝒱 (c : Thread nD τ) bd) E (p >>= fun _ => p') (fun _ => has (F := F) (τ := τ) c M B'') := by
  rw [wp_bind]
  iintro H
  iapply (show wp frame (wpE defs 𝒱 (c : Thread nD τ) bd) E p (fun _ => has (F := F) (τ := τ) c M B') ⊢ _ from
    wp_mono _ _ (wpE := wpE defs 𝒱 (c : Thread nD τ) bd) fun _ => h')
  iapply h $$ H

/-- The whole sort. -/
theorem wp_sortProg (v0 : IVec SC 32) :
    has c M B ⊢ wp frame (wpE defs 𝒱 (c : Thread nD τ) bd) E (sortProg v0 M)
      (fun _ => has (F := F) (τ := τ) c M (sortedBlocks v0 B)) := by
  unfold sortProg
  refine wp_then 𝒱 c bd E (wp_sortLoop 𝒱 c bd E v0) ?_
  refine wp_then 𝒱 c bd E (wp_mergeLoop 𝒱 c bd E v0 0) ?_
  iterate 1 refine wp_then 𝒱 c bd E (wp_exchangeLoop 𝒱 c bd E 1 _) ?_
  refine wp_then 𝒱 c bd E (wp_mergeLoop 𝒱 c bd E v0 1) ?_
  iterate 2 refine wp_then 𝒱 c bd E (wp_exchangeLoop 𝒱 c bd E 2 _) ?_
  refine wp_then 𝒱 c bd E (wp_mergeLoop 𝒱 c bd E v0 2) ?_
  iterate 3 refine wp_then 𝒱 c bd E (wp_exchangeLoop 𝒱 c bd E 3 _) ?_
  refine wp_then 𝒱 c bd E (wp_mergeLoop 𝒱 c bd E v0 3) ?_
  iterate 4 refine wp_then 𝒱 c bd E (wp_exchangeLoop 𝒱 c bd E 4 _) ?_
  refine wp_then 𝒱 c bd E (wp_mergeLoop 𝒱 c bd E v0 4) ?_
  iterate 5 refine wp_then 𝒱 c bd E (wp_exchangeLoop 𝒱 c bd E 5 _) ?_
  exact wp_mergeLoop 𝒱 c bd E v0 5

/-- The loop that sums the squared differences reads both buffers and changes neither. -/
theorem wp_sumLoop {M N : Memref sig .tc .vmem SA .f32} (f : M.view.ty.Contents (Elt F)) (g : N.view.ty.Contents (Elt F)) :
    iprop((M.view.loc (c : Thread nD τ) ↦[M.view.set]{fullShare} f) ∗ (N.view.loc (c : Thread nD τ) ↦[N.view.set]{fullShare} g))
      ⊢ wp frame (wpE defs 𝒱 (c : Thread nD τ) bd) E (sumLoop M N)
        (fun w => iprop(⌜w = total (M.view.read (Elt F) f) (N.view.read (Elt F) g) 16⌝ ∗
          ((M.view.loc (c : Thread nD τ) ↦[M.view.set]{fullShare} f) ∗ (N.view.loc (c : Thread nD τ) ↦[N.view.set]{fullShare} g) : sProp 𝕄))) := by
  iintro H
  unfold sumLoop
  iapply (Scf.wp_for frame (wpE defs 𝒱 (c : Thread nD τ) bd) E 0#32 16#32 1#32 loop16_ok (Scalar.ofBits .f32 0x00000000#32)
    (fun k acc => do
      let x : Vec F SS .f32 ← Prog.lift (.load M (Rect.unit (s := SA) (sumOff k) SS.size (sumOff_inb k)).toLoadRect (View.loadsAt_vmem pos_SS))
      let y : Vec F SS .f32 ← Prog.lift (.load N (Rect.unit (s := SA) (sumOff k) SS.size (sumOff_inb k)).toLoadRect (View.loadsAt_vmem pos_SS))
      pure (Scalar.addf acc (squares x y)))
    (fun n w => iprop(⌜w = total (M.view.read (Elt F) f) (N.view.read (Elt F) g) n⌝ ∗
          ((M.view.loc (c : Thread nD τ) ↦[M.view.set]{fullShare} f) ∗ (N.view.loc (c : Thread nD τ) ↦[N.view.set]{fullShare} g) : sProp 𝕄))) (by
      intro k acc
      iintro ⟨%hacc, H, G⟩
      iapply (wp_load_rect (c := (c : Thread nD τ)) 𝒱 bd E (m := M) (r := Rect.unit (s := SA) (sumOff k) SS.size (sumOff_inb k))
        (View.set_slice_subset _ _)) $$ H
      iintro H
      iapply (wp_load_rect (c := (c : Thread nD τ)) 𝒱 bd E (m := N) (r := Rect.unit (s := SA) (sumOff k) SS.size (sumOff_inb k))
        (View.set_slice_subset _ _)) $$ G
      iintro G
      iapply (wp_done 𝒱 c bd E (w := Scalar.addf acc (squares (part (M.view.read (Elt F) f) k) (part (N.view.read (Elt F) g) k))))
      isplitr
      · ipureintro
        have hk : k.val < 16 := k.isLt
        show _ = dite (k.val < 16) _ _
        rw [dif_pos hk, hacc]
        rfl
      · isplitl [H]
        · iexact H
        · iexact G))
  isplitl
  · isplitr
    · ipureintro; rfl
    · iexact H
  · iintro %w H
    iexact H

end rules

end Cert.Sort
-- ==== Proof.BodyRun.lean ====
/-
  THE RUN OF THE LAUNCH'S BODY: both operands copied in, each buffer sorted, the sum of the squared differences stored.
-/
module

public import proofs.«01_k».proof.Proof.Runs
public import Idealize.ShloMosaic.Lib.Pipeline.FrameBody
public import Idealize.ShloMosaic.Lib.Ring
public import Idealize.ShloMosaic.Lib.WordCmp
public import Idealize.ShloMosaic.Lib.ValueIdxCore

@[expose] public section

noncomputable section

namespace Cert.Sort

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Contents from their blocks. -/
def whole {α : Type} (B : Fin 64 → SB.Idx → α) : SA.Idx → α := fun i =>
  B ⟨(i 0).val / 512, by have h : (i 0).val < 32768 := (i 0).isLt; omega⟩
    (ValueIdx.ix2 (n0 := 512) (n1 := 128) ⟨(i 0).val % 512, Nat.mod_lt _ (by decide)⟩ (i 1))

/-- Contents are those of their blocks. -/
theorem whole_blocks {α : Type} (X : SA.Idx → α) : whole (blocks X) = X := by
  funext i
  unfold whole blocks
  refine congrArg X (funext fun a => Fin.ext ?_)
  fin_cases a
  · refine (place_row _ _).trans ?_
    show 512 * ((i 0).val / 512) + (i 0).val % 512 = (i 0).val
    omega
  · exact place_lane _ _

/-- The word the body stores, from the two operands' contents. -/
def bodyWord (X Y : SA.Idx → F .f32) : F .f32 :=
  total (whole (sortedBlocks rowNumbers (blocks X))) (whole (sortedBlocks rowNumbers (blocks Y))) 16

section run

variable {nD : Nat} {τ : Topo} {sig : RefSig} {Λ : Labels} {defs : Defs nD τ sig (Elt F) Λ} (𝒱 : Variants) (c : Dev nD)

local notation "𝕄" => MT nD τ sig Unit (Elt F) ℕ (Pipeline.UD sig nD τ) ℕ

/-- What is read of a view written whole. -/
theorem read_landed {κ : Kind} {sp : Space} {s : Shape} {e : EltTy} {Val : EltTy → Type} (v : View sig κ sp s e) (f : v.ty.Contents Val)
    (w : s.Idx → Val e) : v.read Val (v.writes Val f [⟨Rect.whole s, w⟩]) = w := by
  funext y
  have hy : (Rect.whole s).emb y = y := funext fun a => Fin.ext (by
    show 0 + 1 * (y a).val = (y a).val
    omega)
  have h := View.read_slice_write_emb (v := v) (Rect.whole s) f w (M := Finset.univ) (x := y) (Finset.mem_univ y)
  rw [hy] at h
  exact h

/-- What is read of the one word written. -/
theorem read_word {κ : Kind} {sp : Space} {e : EltTy} {Val : EltTy → Type} (v : View sig κ sp S11 e) (f : v.ty.Contents Val)
    (h : ∀ a, (![0, 0] : Fin 2 → ℕ) a + S11.size a ≤ S11.size a) (w : S11.Idx → Val e) :
    v.read Val (v.writes Val f [⟨Rect.unit (s := S11) ![0, 0] S11.size h, w⟩]) = w := by
  funext y
  have hy : (Rect.unit (s := S11) ![0, 0] S11.size h).emb y = y := funext fun a => Fin.ext (by
    show (![0, 0] : Fin 2 → ℕ) a + 1 * (y a).val = (y a).val
    fin_cases a <;> simp)
  have h' := View.read_slice_write_emb (v := v) (Rect.unit (s := S11) ![0, 0] S11.size h) f w (M := Finset.univ) (x := y) (Finset.mem_univ y)
  rw [hy] at h'
  exact h'

/-- The sort, then the rest. -/
theorem wp_sort_then {M : Memref sig .tc .vmem SA .f32} {fM : M.view.ty.Contents (Elt F)} {X : SA.Idx → F .f32}
    (h : M.view.read (Elt F) fM = X) {k : PUnit → Prog (TpuEff nD τ sig (Elt F) Λ .tc) PUnit} {Q : PUnit → sProp 𝕄} :
    (M.view.loc (c : Thread nD τ) ↦[M.view.set]{fullShare} fM)
      ⊢ iprop((∀ f', ⌜M.view.read (Elt F) f' = whole (sortedBlocks rowNumbers (blocks X))⌝ -∗
            (M.view.loc (c : Thread nD τ) ↦[M.view.set]{fullShare} f') -∗ wp frame (wpE defs 𝒱 (c : Thread nD τ) none) Set.univ (k ⟨⟩) Q)
        -∗ wp frame (wpE defs 𝒱 (c : Thread nD τ) none) Set.univ (sortProg rowNumbers M >>= k) Q) := by
  rw [wp_bind]
  iintro HM HK
  iapply (wp_wand_r frame (wpE defs 𝒱 (c : Thread nD τ) none) Set.univ
    (Q := fun _ => has (F := F) (τ := τ) c M (sortedBlocks rowNumbers (blocks X))))
  isplitl [HM]
  · iapply (wp_sortProg 𝒱 c none Set.univ rowNumbers)
    unfold has
    iexists fM
    isplitr
    · ipureintro; rw [h]
    · iexact HM
  · unfold has
    iintro %_ ⟨%f', %hf', HM⟩
    iapply HK $$ %f'
    · ipureintro; rw [← hf', whole_blocks]
    · iexact HM

/-- The sum, then the rest. -/
theorem wp_sum_then {M N : Memref sig .tc .vmem SA .f32} (f : M.view.ty.Contents (Elt F)) (g : N.view.ty.Contents (Elt F))
    {k : F .f32 → Prog (TpuEff nD τ sig (Elt F) Λ .tc) PUnit} {Q : PUnit → sProp 𝕄} :
    iprop((M.view.loc (c : Thread nD τ) ↦[M.view.set]{fullShare} f) ∗ (N.view.loc (c : Thread nD τ) ↦[N.view.set]{fullShare} g))
      ⊢ iprop((((M.view.loc (c : Thread nD τ) ↦[M.view.set]{fullShare} f) ∗ (N.view.loc (c : Thread nD τ) ↦[N.view.set]{fullShare} g))
            -∗ wp frame (wpE defs 𝒱 (c : Thread nD τ) none) Set.univ (k (total (M.view.read (Elt F) f) (N.view.read (Elt F) g) 16)) Q)
        -∗ wp frame (wpE defs 𝒱 (c : Thread nD τ) none) Set.univ (sumLoop M N >>= k) Q) := by
  rw [wp_bind]
  iintro H HK
  iapply (wp_wand_r frame (wpE defs 𝒱 (c : Thread nD τ) none) Set.univ
    (Q := fun w => iprop(⌜w = total (M.view.read (Elt F) f) (N.view.read (Elt F) g) 16⌝ ∗
          ((M.view.loc (c : Thread nD τ) ↦[M.view.set]{fullShare} f) ∗ (N.view.loc (c : Thread nD τ) ↦[N.view.set]{fullShare} g) : sProp 𝕄))))
  isplitl [H]
  · iapply (wp_sumLoop 𝒱 c none Set.univ f g) $$ H
  · iintro %w ⟨%hw, H⟩
    subst hw
    iapply HK $$ H

set_option maxHeartbeats 1000000 in
/-- The body: the two operands in high-bandwidth memory and the semaphores end as they were, the result holds the word. -/
theorem wp_body (A B : Memref sig .tc .hbm SA .f32) (hA : A.IsWhole) (hB : B.IsWhole) (O : Memref sig .tc .smem S11 .f32)
    (M N : Memref sig .tc .vmem SA .f32) (hM : M.IsWhole) (hN : N.IsWhole) (s t : DmaSem sig)
    (hs : 0 < M.view.amount (SemLoc.dma s)) (ht : 0 < N.view.amount (SemLoc.dma t))
    (f : A.view.ty.Contents (Elt F)) (g : B.view.ty.Contents (Elt F)) (W : Waits sig Unit) (K : PUnit → sProp 𝕄) :
    iprop((∃ d, owns (c : Thread nD τ) O fullShare d)
        ∗ (∃ d, owns (c : Thread nD τ) M fullShare d) ∗ (∃ d, owns (c : Thread nD τ) N fullShare d)
        ∗ semVal ((c : Thread nD τ), SemLoc.dma s) 0 ∗ semVal ((c : Thread nD τ), SemLoc.dma t) 0
        ∗ (A.view.loc (c : Thread nD τ) ↦[A.view.set]{fullShare} f) ∗ (B.view.loc (c : Thread nD τ) ↦[B.view.set]{fullShare} g)
        ∗ owes (c : Thread nD τ) 0 W
        ∗ (iprop(owns (c : Thread nD τ) O fullShare (fun _ => bodyWord (A.view.read (Elt F) f) (B.view.read (Elt F) g))
            ∗ (∃ d, owns (c : Thread nD τ) M fullShare d) ∗ (∃ d, owns (c : Thread nD τ) N fullShare d)
            ∗ semVal ((c : Thread nD τ), SemLoc.dma s) 0 ∗ semVal ((c : Thread nD τ), SemLoc.dma t) 0
            ∗ (A.view.loc (c : Thread nD τ) ↦[A.view.set]{fullShare} f) ∗ (B.view.loc (c : Thread nD τ) ↦[B.view.set]{fullShare} g)
            ∗ (∃ W', owes (c : Thread nD τ) 0 W')) -∗ K ⟨⟩))
      ⊢ wp frame (wpE defs 𝒱 (c : Thread nD τ) none) Set.univ (body A B hA hB O M N hM hN s t) K := by
  unfold owns body
  iintro ⟨⟨%dO, %fO, -, HO⟩, ⟨%dM, %fM, -, HM⟩, ⟨%dN, %fN, -, HN⟩, Hs, Ht, HA, HB, HW, Hk⟩
  generalize hP : sortProg (F := F) (nD := nD) (τ := τ) (Λ := Λ) rowNumbers M = P
  generalize hR : sortProg (F := F) (nD := nD) (τ := τ) (Λ := Λ) rowNumbers N = R
  generalize hS : sumLoop (F := F) (nD := nD) (τ := τ) (Λ := Λ) M N = S
  sl_exec
  subst hP
  iapply (wp_sort_then 𝒱 c (M := M) rfl) $$ HM
  iintro %fM' %hM' HM
  rw [read_landed] at hM'
  have hM : M.view.read (Elt F) fM' = whole (sortedBlocks rowNumbers (blocks (A.view.read (Elt F) f))) := hM'
  sl_exec
  subst hR
  iapply (wp_sort_then 𝒱 c (M := N) rfl) $$ HN
  iintro %fN' %hN' HN
  rw [read_landed] at hN'
  have hN : N.view.read (Elt F) fN' = whole (sortedBlocks rowNumbers (blocks (B.view.read (Elt F) g))) := hN'
  subst hS
  iapply (wp_sum_then 𝒱 c (M := M) (N := N) fM' fN') $$ [HM HN]
  · isplitl [HM]
    · iexact HM
    · iexact HN
  iintro ⟨HM, HN⟩
  sl_exec
  sl_step
  iapply Hk
  isplitl [HO]
  · iexists _
    isplitr
    swap
    · iexact HO
    · ipureintro
      rw [hM, hN]
      exact read_word O.view _ _ _
  isplitl [HM]
  · iexists _, _
    isplitr
    swap
    · iexact HM
    · ipureintro; rfl
  isplitl [HN]
  · iexists _, _
    isplitr
    swap
    · iexact HN
    · ipureintro; rfl
  isplitl [Hs]
  · iexact Hs
  isplitl [Ht]
  · iexact Ht
  isplitl [HA]
  · iexact HA
  isplitl [HB]
  · iexact HB
  iexists _
  iexact HW

end run

end Cert.Sort
-- ==== Proof.KernelIdealProgram.lean ====
/-
  THE PRINTED KERNEL IS THE PROGRAM OF `Program.lean`: each printed part is the corresponding run of its loops, and the kernel is the whole.
-/
module

public import proofs.«01_k».proof.Proof.Program
public import proofs.«01_k».proof.KernelIdeal

@[expose] public section

noncomputable section

namespace Cert.KernelIdeal

open Idealize.ShloMosaic Idealize.SL.Sem
open Cert.Sort
open Facts₀ Facts

variable {F : FTy → Type} [FloatOps F] [Facts]

variable (arg0 : Memref sig .tc .hbm S32768x128 .f32) (harg0 : arg0.IsWhole) (arg1 : Memref sig .tc .hbm S32768x128 .f32) (harg1 : arg1.IsWhole)
  (arg2 : Memref sig .tc .smem S1x1 .f32) (harg2 : arg2.IsWhole) (arg3 : Memref sig .tc .vmem S32768x128 .f32) (harg3 : arg3.IsWhole)
  (arg4 : Memref sig .tc .vmem S32768x128 .f32) (harg4 : arg4.IsWhole) (arg5 arg6 : DmaSems sig S_)

/-- The copies' start, and the sign columns that the blocks' phases use. -/
theorem start_eq :
    k0_part181 (F := F) arg0 harg0 arg1 harg1 arg2 harg2 arg3 harg3 arg4 harg4 arg5 arg6 = (do
      Prog.lift (.enqueueDma arg0 (.here arg3) (.dma arg5.sem) harg0.wordExact harg3.wordExact ⟨Or.inl rfl, trivial⟩)
      Prog.lift (.enqueueDma arg1 (.here arg4) (.dma arg6.sem) harg1.wordExact harg4.wordExact ⟨Or.inl rfl, trivial⟩)
      pure ⟨rowNumbers, sign rowNumbers 2#32, sign rowNumbers 4#32, sign rowNumbers 8#32, sign rowNumbers 16#32, sign rowNumbers 32#32,
        broadcast S512x1 64#32⟩) := by
  rfl

/-- The first copy's wait, the first buffer's blocks, and its levels of one and two blocks up to the first exchange. -/
theorem first_eq (v0 : IVec S512x1 32) :
    k0_part182 (F := F) arg0 harg0 arg1 harg1 arg2 harg2 arg3 harg3 arg4 harg4 arg5 arg6 v0 (sign v0 2#32) (sign v0 4#32)
      (sign v0 8#32) (sign v0 16#32) (sign v0 32#32) (broadcast S512x1 64#32) = (do
      Prog.lift (.waitDma2 arg5.sem arg0 arg3 harg0.wordExact harg3.wordExact)
      sortLoop v0 arg3
      mergeLoop v0 arg3 0
      exchangeLoop arg3 1 1
      pure ⟨sign v0 256#32, signs v0 2#32 4#32, signs v0 4#32 8#32, signs v0 8#32 16#32, signs v0 16#32 32#32, signs v0 32#32 64#32,
        signs v0 64#32 128#32, signs v0 128#32 256#32, 0#32⟩) := by
  rfl

/-- The first buffer's levels up to sixteen blocks, -/
theorem second_eq (v0 : IVec S512x1 32) :
    k0_part183 (F := F) arg0 harg0 arg1 harg1 arg2 harg2 arg3 harg3 arg4 harg4 arg5 arg6 v0 0#32 = (do
      mergeLoop v0 arg3 1
      exchangeLoop arg3 2 2
      exchangeLoop arg3 2 1
      mergeLoop v0 arg3 2
      exchangeLoop arg3 3 3
      exchangeLoop arg3 3 2
      exchangeLoop arg3 3 1
      mergeLoop v0 arg3 3
      exchangeLoop arg3 4 4
      exchangeLoop arg3 4 3
      pure 0#32) := by
  rfl

/-- its last levels, the second copy's wait and the second buffer's blocks. -/
theorem third_eq (v0 : IVec S512x1 32) :
    k0_part184 (F := F) arg0 harg0 arg1 harg1 arg2 harg2 arg3 harg3 arg4 harg4 arg5 arg6 v0 (sign v0 2#32) (sign v0 256#32)
      (signs v0 2#32 4#32) (signs v0 4#32 8#32) (signs v0 8#32 16#32) (signs v0 16#32 32#32) (signs v0 32#32 64#32) (signs v0 64#32 128#32)
      (signs v0 128#32 256#32) 0#32 = (do
      exchangeLoop arg3 4 2
      exchangeLoop arg3 4 1
      mergeLoop v0 arg3 4
      exchangeLoop arg3 5 5
      exchangeLoop arg3 5 4
      exchangeLoop arg3 5 3
      exchangeLoop arg3 5 2
      exchangeLoop arg3 5 1
      mergeLoop v0 arg3 5
      Prog.lift (.waitDma2 arg6.sem arg1 arg4 harg1.wordExact harg4.wordExact)
      sortLoop v0 arg4
      pure ⟨0#32, 32#32⟩) := by
  rfl

/-- The second buffer's levels up to eight blocks, -/
theorem fourth_eq (v0 : IVec S512x1 32) :
    k0_part185 (F := F) arg0 harg0 arg1 harg1 arg2 harg2 arg3 harg3 arg4 harg4 arg5 arg6 v0 0#32 32#32 = (do
      mergeLoop v0 arg4 0
      exchangeLoop arg4 1 1
      mergeLoop v0 arg4 1
      exchangeLoop arg4 2 2
      exchangeLoop arg4 2 1
      mergeLoop v0 arg4 2
      exchangeLoop arg4 3 3
      exchangeLoop arg4 3 2
      exchangeLoop arg4 3 1
      mergeLoop v0 arg4 3
      pure ⟨0#32, 32#32⟩) := by
  rfl

/-- and its last levels but for the last merge. -/
theorem fifth_eq (v0 : IVec S512x1 32) :
    k0_part186 (F := F) arg0 harg0 arg1 harg1 arg2 harg2 arg3 harg3 arg4 harg4 arg5 arg6 v0 0#32 32#32 = (do
      exchangeLoop arg4 4 4
      exchangeLoop arg4 4 3
      exchangeLoop arg4 4 2
      exchangeLoop arg4 4 1
      mergeLoop v0 arg4 4
      exchangeLoop arg4 5 5
      exchangeLoop arg4 5 4
      exchangeLoop arg4 5 3
      exchangeLoop arg4 5 2
      exchangeLoop arg4 5 1
      pure ⟨0#32, 32#32⟩) := by
  rfl

/-- The kernel is the whole program. -/
theorem kernel_eq :
    cc0__qag_kernel (F := F) arg0 harg0 arg1 harg1 arg2 harg2 arg3 harg3 arg4 harg4 arg5 arg6
      = body arg0 arg1 harg0 harg1 arg2 arg3 arg4 harg3 harg4 arg5.sem arg6.sem := by
  unfold cc0__qag_kernel
  simp only [start_eq, first_eq, second_eq, third_eq, fourth_eq, fifth_eq, body, sortProg, bind_assoc, pure_bind]
  rfl

end Cert.KernelIdeal
-- ==== Proof.KernelIdealLaunch.lean ====
/-
  THE LAUNCH of `KernelIdeal`: the body's obligation in the pipeline, and the run of @main around it — the arguments end as they were, every
  semaphore reads zero, and the result's buffer holds the host lines' image of the body's word.
-/
module

public import proofs.«01_k».proof.Proof.KernelIdealProgram
public import proofs.«01_k».proof.Proof.BodyRun
public import proofs.«01_k».proof.Proof.Gen.KernelIdeal.Frame

@[expose] public section

noncomputable section

namespace Cert.KernelIdeal.Launch

open Cert.KernelIdeal Cert.KernelIdeal.Gen
open Cert.Sort (body bodyWord wp_body SA S11)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

set_option maxHeartbeats 800000 in
/-- @main reduces to the region continued by the later host lines. -/
theorem main_around (𝒱₀ : Variants) :
    Pipeline.HMainK (Ix := Unit) (Name := ℕ) (U := Pipeline.UD sig nD τ) (Lvl := ℕ) cfgs 0 defs₀ 𝒱₀ m (main (F := F)) (Gen.V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The transposed operands, which the body's transfers read. -/
def H : Finset (Ref sig .tc) := {main_call0_v0, main_call0_v1}
theorem H_sub : H ⊆ Pipeline.restRefs sig spec0 := by decide

/-- The later lines touch neither operand. -/
theorem later_sub : ∀ ops ∈ ([hostOps1] : List (List (HloOp τ sig (Elt F)))), ∀ op ∈ ops,
    op.bufs ⊆ Pipeline.tailRefsBut sig Pipeline.Prefetch.none spec0 H := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  simp only [hostOps1, List.mem_cons, List.mem_nil_iff, or_false] at hop
  rcases hop with rfl | rfl | rfl
  all_goals exact of_decide_eq_true rfl

/-! ## The body's resources -/

/-- The two copies' semaphores. -/
abbrev osem : Fin 2 → SemLoc sig := fun j => (![SemLoc.dma cc0_scratch2.sem, SemLoc.dma cc0_scratch3.sem] : Fin 2 → SemLoc sig) j
theorem osem_facts : Pipeline.OwnSemFacts spec0 osem := by decide

/-- The operands. -/
abbrev opA : Memref sig .tc .hbm SA .f32 := Memref.whole main_call0_v0
abbrev opB : Memref sig .tc .hbm SA .f32 := Memref.whole main_call0_v1

/-- The invariant of the region, conjunct by conjunct. -/
theorem inv_eq (c : Dev nD) :
    (Pipeline.ΦD osem spec0 H (Gen.V m) c : sProp 𝕄)
      = iprop(iprop((∃ d, owns (c : Thread nD τ) (Memref.whole cc0_scratch0) fullShare d)
            ∗ (∃ d, owns (c : Thread nD τ) (Memref.whole cc0_scratch1) fullShare d))
          ∗ (∃ r, prngReg c r)
          ∗ iprop(semVal ((c : Thread nD τ), SemLoc.dma cc0_scratch2.sem) 0 ∗ semVal ((c : Thread nD τ), SemLoc.dma cc0_scratch3.sem) 0)
          ∗ iprop((opA.view.loc (c : Thread nD τ) ↦[opA.view.set]{fullShare} Gen.V m c main_call0_v0)
            ∗ (opB.view.loc (c : Thread nD τ) ↦[opB.view.set]{fullShare} Gen.V m c main_call0_v1))) := by
  rw [Pipeline.ΦD_eq, scopedRest0_eq, Pipeline.ownSems0_eq_of_list c osem [0, 1] (by decide) (by decide),
    BI.bigSep_eq_bigSepL_of_eq [main_call0_v0, main_call0_v1] (by decide) (by decide)]
  simp only [owns_whole, opA, opB, Memref.view_whole, View.set_whole]
  rfl

/-- The word the body leaves, from the operands as the region finds them. -/
def word (c : Dev nD) : F .f32 := bodyWord (Gen.V m c main_call0_v0) (Gen.V m c main_call0_v1)

/-- The proof data: the arrays as the region finds them, the result's staging buffer at the word after the body. -/
def dats (_ : Fin 1) (c : Dev nD) : Dat τ (Elt F) Unit ℕ (Pipeline.UD sig nD τ) ℕ cfg0 c where
  A w := Gen.V m c (Pipeline.arrRef spec0 w)
  after w t := match w with
    | ⟨0, _⟩ => fun _ => word m c
  Φ _ := Pipeline.ΦD osem spec0 H (Gen.V m) c
  q _ := fullShare
  owed _ := 0

theorem after_eq (c : Dev nD) (t : Fin cfg0.N) : (dats m 0 c).after 0 t = fun _ => word m c := by dsimp only [dats]

/-- The obligation at a point, before the body, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)))
/-- and after it. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t))

/-- The body meets its obligation. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after_eq]
  rw [show (dats m 0 c).Φ t.castSucc = Pipeline.ΦD osem spec0 H (Gen.V m) c from rfl, inv_eq]
  unfold Dat.owesAt Pipeline.owesWithin
  rw [show (dats m 0 c).owed t.castSucc = 0 from rfl, show (dats m 0 c).owed t.succ = 0 from rfl]
  rw [kernel_eq]
  iintro ⟨⟨⟨HM, HN⟩, Hg, ⟨Hs, Ht⟩, ⟨HA, HB⟩⟩, ⟨%W, -, HW⟩, ⟨%d0, H0⟩⟩
  iapply (wp_body Variants.none c opA opB (Memref.isWhole_whole _) (Memref.isWhole_whole _)
    (win0_0.stage (cfg0.slots t 0)) (Memref.whole cc0_scratch0) (Memref.whole cc0_scratch1) (Memref.isWhole_whole _) (Memref.isWhole_whole _)
    cc0_scratch2.sem cc0_scratch3.sem (by decide) (by decide) (Gen.V m c main_call0_v0) (Gen.V m c main_call0_v1) W _)
  isplitl [H0]
  · iexists _
    iexact H0
  isplitl [HM]
  · iexact HM
  isplitl [HN]
  · iexact HN
  isplitl [Hs]
  · iexact Hs
  isplitl [Ht]
  · iexact Ht
  isplitl [HA]
  · iexact HA
  isplitl [HB]
  · iexact HB
  isplitl [HW]
  · iexact HW
  iintro ⟨H0, HM, HN, Hs, Ht, HA, HB, ⟨%W', HW'⟩⟩
  isplitl [HM HN Hg Hs Ht HA HB]
  · isplitl [HM HN]
    · isplitl [HM]
      · iexact HM
      · iexact HN
    isplitl [Hg]
    · iexact Hg
    isplitl [Hs Ht]
    · isplitl [Hs]
      · iexact Hs
      · iexact Ht
    isplitl [HA]
    · iexact HA
    · iexact HB
  isplitl [HW']
  · iexists W'
    isplitr
    · ipureintro; exact fun _ _ => Or.inl trivial
    · iexact HW'
  iexact H0

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- The run of @main: every array and every buffer outside the region as the host lines leave them, every semaphore at zero. -/
theorem run_main : θ_run defs (onTc (τ := τ) (main (F := F))) (s₀ m ρ)
    (fun r => Pipeline.FramePost cfgs (dats m) 0 (Pipeline.afterTail₀ cfgs (dats m) 0 (Gen.V0 m) [hostOps1]) r ∧ r.2.sem = fun _ => 0) :=
  Pipeline.θ_run_frame_dma_around (Q' := _) cfgs (dats m) (0 : Fin 1) launch0 osem defs₀ Variants.none osem_facts H H_sub m ρ main
    (hbody := fun c => (body_obligation m c).loose) (hshare := fun c => (dats m 0 c).share_full fun _ => rfl)
    (howed := fun _ _ => rfl) (V₀ := Gen.V0 m) (opss := [hostOps1]) (hsub := later_sub) (hfresh := sfx_fresh) (hkeep := sfx_keeps)
    (hmain := main_around m Variants.none) (hA := fun _ _ => rfl) (hin := fun _ => .rfl) (hout := fun _ => .rfl)

/-- No host line writes an argument. -/
theorem tail_keeps (c : Dev nD) (b : Ref sig .tc) (h : ∀ w, Pipeline.arrRef spec0 w ≠ b) (h3 : main_call0_v3 ≠ b) (hc : main_call0_cst ≠ b)
    (h0 : main_v0 ≠ b) : Pipeline.afterTail₀ cfgs (dats m) 0 (Gen.V0 m) [hostOps1] c b = Gen.V m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.nullary_writes,
        StableHlo.binary_writes, StableHlo.reshape_writes, Finset.mem_singleton]
      exact ⟨StableHlo.devRef_ne_of_ne h3.symm, StableHlo.devRef_ne_of_ne hc.symm, StableHlo.devRef_ne_of_ne h0.symm⟩)),
    Pipeline.withArrays_of_ne _ c (Gen.V0 m c) _ b h]

/-- The first argument ends as it was, -/
theorem tail_arg0 (c : Dev nD) :
    Pipeline.afterTail₀ cfgs (dats m) 0 (Gen.V0 m) [hostOps1] c main_arg0 = m ((c : Thread nD τ).loc main_arg0) :=
  (tail_keeps m c main_arg0 (by decide) (by decide) (by decide) (by decide)).trans (V_main_arg0 m c)
/-- and so does the second. -/
theorem tail_arg1 (c : Dev nD) :
    Pipeline.afterTail₀ cfgs (dats m) 0 (Gen.V0 m) [hostOps1] c main_arg1 = m ((c : Thread nD τ).loc main_arg1) :=
  (tail_keeps m c main_arg1 (by decide) (by decide) (by decide) (by decide)).trans (V_main_arg1 m c)

/-- What the run leaves in the result's buffer. -/
def result (c : Dev nD) : Buf (Elt F) ((c : Thread nD τ).loc main_v0) :=
  Pipeline.afterTail₀ cfgs (dats m) 0 (Gen.V0 m) [hostOps1] c main_v0

/-- The run: the result, both arguments as they were, and every semaphore at zero. -/
theorem run_all : θ_run defs (onTc (τ := τ) (main (F := F))) ⟨m, fun _ => 0, ρ⟩ (fun r => (∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(h.1 c).2 main_v0 (Pipeline.mem_restRefs_of main_v0 (by decide) (by decide)),
      ((h.1 c).2 main_arg0 (Pipeline.mem_restRefs_of main_arg0 (by decide) (by decide))).trans (tail_arg0 m c),
      ((h.1 c).2 main_arg1 (Pipeline.mem_restRefs_of main_arg1 (by decide) (by decide))).trans (tail_arg1 m c)⟩, h.2⟩) (run_main m ρ)

/-- The arguments end as they were, and every semaphore reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (run_all m ρ)

end Cert.KernelIdeal.Launch
-- ==== Proof.Stages.lean ====
/-
  THE STAGES OF A BITONIC SORT on extended reals, as runs of stages at a list of distances with one direction per position: what a stage is
  at a position, and that a run in mixed directions is the ascending run between two changes of sign.
-/
module

public import Idealize.ShloMosaic.Lib.SortNet.Sorts
public import Mathlib.Data.EReal.Operations
public import Mathlib.Data.EReal.Inv

@[expose] public section

noncomputable section

namespace Cert.Sort

open Idealize.ShloMosaic.SortNet

section order

variable {α : Type} [LinearOrder α]

/-- A stage at a position: the bit of the stage says which of a pair the position is. -/
theorem stage_apply {p s : ℕ} (hs : s < p) (w : Fin (2 ^ p) → Bool) (v : Fin (2 ^ p) → α) (i : Fin (2 ^ p)) :
    Network.apply (stage p s w) v i
      = bif i.val.testBit s then (if w (partner p s i) then min (v i) (v (partner p s i)) else max (v i) (v (partner p s i)))
        else (if w i then max (v i) (v (partner p s i)) else min (v i) (v (partner p s i))) := by
  cases hb : i.val.testBit s with
  | false =>
    rw [cond_false]
    exact (apply_stage hs w v i ((and_two_pow_eq_zero_iff_testBit _ _).mpr hb)).1
  | true =>
    rw [cond_true]
    have hne : i.val &&& 2 ^ s ≠ 0 := fun h => by
      rw [(and_two_pow_eq_zero_iff_testBit _ _).mp h] at hb
      exact Bool.noConfusion hb
    have h := (apply_stage hs w v (partner p s i) (partner_and_of_set hs i hne)).2
    rw [partner_partner hs, min_comm, max_comm] at h
    exact h

/-- The stages at the distances `2 ^ s` for `s` in a list, the greater entry first where `w` says so. -/
def run (p : ℕ) (S : List ℕ) (w : Fin (2 ^ p) → Bool) (v : Fin (2 ^ p) → α) : Fin (2 ^ p) → α :=
  Network.apply (S.flatMap fun s => stage p s w) v

theorem run_nil (p : ℕ) (w : Fin (2 ^ p) → Bool) (v : Fin (2 ^ p) → α) : run p [] w v = v := rfl

theorem run_cons (p s : ℕ) (S : List ℕ) (w : Fin (2 ^ p) → Bool) (v : Fin (2 ^ p) → α) :
    run p (s :: S) w v = run p S w (Network.apply (stage p s w) v) := by
  unfold run
  rw [List.flatMap_cons, Network.apply_append]

theorem run_append (p : ℕ) (S T : List ℕ) (w : Fin (2 ^ p) → Bool) (v : Fin (2 ^ p) → α) :
    run p (S ++ T) w v = run p T w (run p S w v) := by
  unfold run
  rw [List.flatMap_append, Network.apply_append]

/-- A run reads the directions only. -/
theorem run_congr {p : ℕ} (S : List ℕ) {w w' : Fin (2 ^ p) → Bool} (h : ∀ i, w i = w' i) (v : Fin (2 ^ p) → α) : run p S w v = run p S w' v := by
  rw [show w = w' from funext h]

end order

/-- Entries negated where `w` says so. -/
def flip {n : ℕ} (w : Fin n → Bool) (v : Fin n → EReal) : Fin n → EReal := fun i => bif w i then -(v i) else v i

theorem flip_flip {n : ℕ} (w : Fin n → Bool) (v : Fin n → EReal) : flip w (flip w v) = v := by
  funext i
  unfold flip
  cases w i with
  | false => rfl
  | true => exact neg_neg _

/-- A stage in mixed directions is the ascending stage between two changes of sign, where the two positions of a pair agree. -/
theorem flip_stage {p s : ℕ} (hs : s < p) (w : Fin (2 ^ p) → Bool) (hw : ∀ i, w (partner p s i) = w i) (v : Fin (2 ^ p) → EReal) :
    flip w (Network.apply (stage p s fun _ => false) (flip w v)) = Network.apply (stage p s w) v := by
  funext i
  have hmax (a b : EReal) : -max (-a) (-b) = min a b := by
    rw [EReal.max_neg_neg, neg_neg]
  have hmin (a b : EReal) : -min (-a) (-b) = max a b := by
    rw [EReal.min_neg_neg, neg_neg]
  unfold flip
  rw [stage_apply hs, stage_apply hs]
  simp only [hw]
  cases i.val.testBit s <;> cases w i <;> simp [hmax, hmin]

/-- The same for a run. -/
theorem flip_run {p : ℕ} (S : List ℕ) (w : Fin (2 ^ p) → Bool) (hS : ∀ s ∈ S, s < p ∧ ∀ i, w (partner p s i) = w i) (v : Fin (2 ^ p) → EReal) :
    flip w (run p S (fun _ => false) (flip w v)) = run p S w v := by
  induction S generalizing v with
  | nil => exact flip_flip w v
  | cons s S ih =>
    have h := hS s List.mem_cons_self
    rw [run_cons, run_cons, ← flip_stage h.1 w h.2, ← ih fun t ht => hS t (List.mem_cons_of_mem s ht), flip_flip]

/-- Partners agree in the other bits. -/
theorem testBit_partner {p s t : ℕ} (hs : s < p) (h : s ≠ t) (i : Fin (2 ^ p)) : (partner p s i).val.testBit t = i.val.testBit t := by
  rw [partner_val hs, Nat.testBit_xor, Nat.testBit_two_pow, decide_eq_false h, Bool.xor_false]

/-- The run of a level whose direction is a bit above its distances. -/
theorem flip_run_bit {p t : ℕ} (S : List ℕ) (hS : ∀ s ∈ S, s < p ∧ s < t) (v : Fin (2 ^ p) → EReal) :
    flip (fun i => i.val.testBit t) (run p S (fun _ => false) (flip (fun i => i.val.testBit t) v)) = run p S (fun i => i.val.testBit t) v :=
  flip_run S _ (fun s hs => ⟨(hS s hs).1, fun i => testBit_partner (hS s hs).1 (ne_of_lt (hS s hs).2) i⟩) v

/-- The run of a level in one direction. -/
theorem flip_run_const {p : ℕ} (S : List ℕ) (b : Bool) (hS : ∀ s ∈ S, s < p) (v : Fin (2 ^ p) → EReal) :
    flip (fun _ => b) (run p S (fun _ => false) (flip (fun _ => b) v)) = run p S (fun _ => b) v :=
  flip_run S _ (fun s hs => ⟨hS s hs, fun _ => rfl⟩) v

end Cert.Sort
-- ==== Proof.Halving.lean ====
/-
  THE HALVING STEPS of a block on extended reals: on every lane they are the stages at the distances from half a group down to eight.
-/
module

public import proofs.«01_k».proof.Proof.Blocks
public import proofs.«01_k».proof.Proof.Stages
public import Idealize.ShloMosaic.Lib.ValueIdxCore
public import Idealize.ShloMosaic.Lib.Pointwise.Reshape
public import Idealize.ShloMosaic.Lib.Pipeline.Value
public import Idealize.ShloMosaic.PureOps.Ideal

@[expose] public section

noncomputable section

namespace Cert.Sort

open Idealize.ShloMosaic Idealize.ShloMosaic.SortNet

/-- A lane of a block, as a vector over its rows. -/
def col (x : FVec Ideal SB .f32) (c : Fin 128) : Fin (2 ^ 9) → EReal := fun r => x (ValueIdx.ix2 (n0 := 512) ⟨r.val, r.isLt⟩ c)

theorem group_lt {j : ℕ} (r : Fin (2 ^ (j + 3))) : r.val < 8 * 2 ^ j := by
  have h : 2 ^ (j + 3) = 8 * 2 ^ j := by rw [Nat.pow_add, Nat.mul_comm]
  exact h ▸ r.isLt

theorem piece_lt {j k : ℕ} (hk : k < 2 ^ j) (r : Fin 8) : 8 * k + r.val < 2 ^ (j + 3) := by
  have h : 2 ^ (j + 3) = 8 * 2 ^ j := by rw [Nat.pow_add, Nat.mul_comm]
  have := r.isLt
  omega

/-- A lane of one group. -/
def gcol {g j : ℕ} (x : FVec Ideal (SG g (8 * 2 ^ j)) .f32) (a : Fin g) (c : Fin 128) : Fin (2 ^ (j + 3)) → EReal :=
  fun r => x (ValueIdx.ix3 a ⟨r.val, group_lt r⟩ c)

/-- The distances of the halving steps on groups of `8 * 2 ^ j` rows, as exponents. -/
def down : ℕ → List ℕ
  | 0 => []
  | j + 1 => (j + 3) :: down j

theorem down_lt (j : ℕ) : ∀ s ∈ down j, s < j + 3 := by
  induction j with
  | zero => intro s hs; exact absurd hs List.not_mem_nil
  | succ j ih =>
    intro s hs
    rcases List.mem_cons.mp hs with rfl | h
    · omega
    · have := ih s h
      omega

/-- The `k`-th piece of eight rows after the halving steps. -/
def piece {g : ℕ} (j : ℕ) (x : FVec Ideal (SG g (8 * 2 ^ j)) .f32) (k : ℕ) (hk : k < 2 ^ j) : FVec Ideal (SG g 8) .f32 := fun i =>
  run (j + 3) (down j) (fun _ => false) (gcol x (i 0) (i 2)) ⟨8 * k + (i 1).val, piece_lt hk (i 1)⟩

section step

variable {g j : ℕ} (x : FVec Ideal (SG g (8 * 2 ^ (j + 1))) .f32) (a : Fin g) (c : Fin 128)

theorem gcol_lowHalf (r : Fin (2 ^ (j + 3))) :
    gcol (lowHalf g j x) a c r = gcol x a c (chunkPos (P := j + 4) (Nat.le_succ (j + 3)) ⟨0, Nat.two_pow_pos _⟩ r) := by
  unfold gcol lowHalf extractStridedSlice
  refine congrArg x (funext fun b => ?_)
  match b with
  | ⟨0, _⟩ => exact Fin.ext (Nat.zero_add _)
  | ⟨1, _⟩ => exact Fin.ext (by show 0 + r.val = 0 * 2 ^ (j + 3) + r.val; omega)
  | ⟨2, _⟩ => exact Fin.ext (Nat.zero_add _)

theorem one_lt_chunks (j : ℕ) : 1 < 2 ^ (j + 4 - (j + 3)) := by
  rw [show j + 4 - (j + 3) = 1 by omega]
  decide

theorem gcol_highHalf (r : Fin (2 ^ (j + 3))) :
    gcol (highHalf g j x) a c r = gcol x a c (chunkPos (P := j + 4) (Nat.le_succ (j + 3)) ⟨1, one_lt_chunks j⟩ r) := by
  unfold gcol highHalf extractStridedSlice
  refine congrArg x (funext fun b => ?_)
  match b with
  | ⟨0, _⟩ => exact Fin.ext (Nat.zero_add _)
  | ⟨1, _⟩ =>
    refine Fin.ext ?_
    show 8 * 2 ^ j + r.val = 1 * 2 ^ (j + 3) + r.val
    have h : 2 ^ (j + 3) = 8 * 2 ^ j := by rw [Nat.pow_add, Nat.mul_comm]
    omega
  | ⟨2, _⟩ => exact Fin.ext (Nat.zero_add _)

/-- The first step: the two halves of a group are exchanged. -/
theorem first_stage (b : Bool) (hb : b.toNat < 2 ^ (j + 4 - (j + 3))) (r : Fin (2 ^ (j + 3))) :
    Network.apply (stage (j + 4) (j + 3) fun _ => false) (gcol x a c) (chunkPos (P := j + 4) (Nat.le_succ (j + 3)) ⟨b.toNat, hb⟩ r)
      = bif b then max (gcol (lowHalf g j x) a c r) (gcol (highHalf g j x) a c r)
        else min (gcol (lowHalf g j x) a c r) (gcol (highHalf g j x) a c r) := by
  rw [stage_apply (Nat.lt_succ_self (j + 3)), chunkPos_testBit_high (Nat.le_succ (j + 3)) _ _ (le_refl (j + 3)),
    partner_chunkPos_high (Nat.le_succ (j + 3)) (le_refl (j + 3)) (Nat.lt_succ_self (j + 3)), gcol_lowHalf, gcol_highHalf]
  have h0 : partner (j + 4 - (j + 3)) (j + 3 - (j + 3)) ⟨0, Nat.two_pow_pos _⟩ = ⟨1, one_lt_chunks j⟩ := by
    refine Fin.ext ?_
    rw [partner_val (by omega)]
    show 0 ^^^ 2 ^ (j + 3 - (j + 3)) = 1
    rw [Nat.sub_self]
    rfl
  have h1 : partner (j + 4 - (j + 3)) (j + 3 - (j + 3)) ⟨1, one_lt_chunks j⟩ = ⟨0, Nat.two_pow_pos _⟩ := by
    rw [← h0, partner_partner (by omega)]
  cases b with
  | false =>
    rw [show (⟨Bool.toNat false, hb⟩ : Fin (2 ^ (j + 4 - (j + 3)))) = ⟨0, Nat.two_pow_pos _⟩ from rfl, h0, Nat.sub_self]
    simp
  | true =>
    rw [show (⟨Bool.toNat true, hb⟩ : Fin (2 ^ (j + 4 - (j + 3)))) = ⟨1, one_lt_chunks j⟩ from rfl, h1, Nat.sub_self]
    simp [max_comm]

/-- The pieces of the first half are those of the lesser halves, -/
theorem piece_low (k : ℕ) (hk : k < 2 ^ j) (hk' : k < 2 ^ (j + 1)) :
    piece (j + 1) x k hk' = piece j (minimumf (lowHalf g j x) (highHalf g j x)) k hk := by
  funext i
  unfold piece
  rw [down, run_cons]
  have h := apply_flatMap_stage_chunkPos (P := j + 4) (Nat.le_succ (j + 3)) (down j) (down_lt j) (fun _ => false)
    (Network.apply (stage (j + 4) (j + 3) fun _ => false) (gcol x (i 0) (i 2))) ⟨0, Nat.two_pow_pos _⟩ ⟨8 * k + (i 1).val, piece_lt hk (i 1)⟩
  refine Eq.trans (congrArg _ (Fin.ext ?_)) (h.trans ?_)
  · show 8 * k + (i 1).val = 0 * 2 ^ (j + 3) + (8 * k + (i 1).val)
    omega
  · refine congrFun (congrArg (Network.apply _) (funext fun r => ?_)) _
    exact first_stage x (i 0) (i 2) false (Nat.two_pow_pos _) r

/-- those of the second half are those of the greater halves. -/
theorem piece_high (k : ℕ) (hk : k < 2 ^ j) (hk' : 2 ^ j + k < 2 ^ (j + 1)) :
    piece (j + 1) x (2 ^ j + k) hk' = piece j (maximumf (lowHalf g j x) (highHalf g j x)) k hk := by
  funext i
  unfold piece
  rw [down, run_cons]
  have h := apply_flatMap_stage_chunkPos (P := j + 4) (Nat.le_succ (j + 3)) (down j) (down_lt j) (fun _ => false)
    (Network.apply (stage (j + 4) (j + 3) fun _ => false) (gcol x (i 0) (i 2))) ⟨1, one_lt_chunks j⟩ ⟨8 * k + (i 1).val, piece_lt hk (i 1)⟩
  refine Eq.trans (congrArg _ (Fin.ext ?_)) (h.trans ?_)
  · show 8 * (2 ^ j + k) + (i 1).val = 1 * 2 ^ (j + 3) + (8 * k + (i 1).val)
    have h : 2 ^ (j + 3) = 8 * 2 ^ j := by rw [Nat.pow_add, Nat.mul_comm]
    omega
  · refine congrFun (congrArg (Network.apply _) (funext fun r => ?_)) _
    exact first_stage x (i 0) (i 2) true (one_lt_chunks j) r

end step

/-- The halving steps give the pieces in order. -/
theorem halve_getElem {g : ℕ} (j : ℕ) (x : FVec Ideal (SG g (8 * 2 ^ j)) .f32) (acc : List ((s : Shape) × (s.Idx → Ideal .f32))) (k : ℕ) :
    (halve g j x acc)[k]? = if h : k < 2 ^ j then some ⟨SG g 8, piece j x k h⟩ else acc[k - 2 ^ j]? := by
  induction j generalizing acc k with
  | zero =>
    rw [halve]
    cases k with
    | zero =>
      rw [dif_pos (by decide), List.getElem?_cons_zero]
      refine congrArg some (Sigma.ext rfl (heq_of_eq (funext fun i => ?_)))
      show x i = x (ValueIdx.ix3 (i 0) _ (i 2))
      refine congrArg x (funext fun b => ?_)
      match b with
      | ⟨0, _⟩ => rfl
      | ⟨1, _⟩ => exact Fin.ext (by show (i 1).val = 8 * 0 + (i 1).val; omega)
      | ⟨2, _⟩ => rfl
    | succ k =>
      rw [dif_neg (by simp), List.getElem?_cons_succ]
      rfl
  | succ j ih =>
    rw [halve, ih, ih]
    have h2 : 2 ^ (j + 1) = 2 ^ j + 2 ^ j := by rw [Nat.pow_succ]; omega
    by_cases h : k < 2 ^ j
    · rw [dif_pos h, dif_pos (by omega), piece_low x k h]
    · rw [dif_neg h]
      by_cases h' : k - 2 ^ j < 2 ^ j
      · rw [dif_pos h', dif_pos (by omega)]
        obtain ⟨m, rfl⟩ : ∃ m, k = 2 ^ j + m := ⟨k - 2 ^ j, by omega⟩
        have e : 2 ^ j + m - 2 ^ j = m := Nat.add_sub_cancel_left _ _
        have hm : m < 2 ^ j := by omega
        refine congrArg some (Sigma.ext rfl (heq_of_eq ?_))
        show piece j _ (2 ^ j + m - 2 ^ j) h' = _
        rw [piece_high x m hm]
        congr 1
      · rw [dif_neg h', dif_neg (by omega), Nat.sub_sub, h2]

section cast

variable {α : Type}

/-- A block seen in groups, at an index. -/
theorem cast_group {g n : ℕ} (h : SB.ShapeCasts (SG g n)) (x : SB.Idx → α) (a : Fin g) (b : Fin n) (c : Fin 128) (r : Fin 512)
    (hr : r.val = a.val * n + b.val) : shapeCast (SG g n) x h (ValueIdx.ix3 a b c) = x (ValueIdx.ix2 r c) := by
  refine congrArg x (Shape.reshapeEquiv_eq_of_rowMajor h ?_)
  rw [rowMajor_val2 _ 128 rfl, rowMajor_val3 _ (n * 128) 128 rfl rfl]
  show r.val * 128 + c.val = a.val * (n * 128) + b.val * 128 + c.val
  rw [hr, Nat.add_mul, Nat.mul_assoc]

/-- Groups seen as a block, at an index. -/
theorem cast_block {g n : ℕ} (h : (SG g n).ShapeCasts SB) (x : (SG g n).Idx → α) (a : Fin g) (b : Fin n) (c : Fin 128) (r : Fin 512)
    (hr : r.val = a.val * n + b.val) : shapeCast SB x h (ValueIdx.ix2 r c) = x (ValueIdx.ix3 a b c) := by
  refine congrArg x (Shape.reshapeEquiv_eq_of_rowMajor h ?_)
  rw [rowMajor_val2 _ 128 rfl, rowMajor_val3 _ (n * 128) 128 rfl rfl]
  show a.val * (n * 128) + b.val * 128 + c.val = r.val * 128 + c.val
  rw [hr, Nat.add_mul, Nat.mul_assoc]

end cast

/-- Every position is a place in a chunk. -/
theorem eq_chunkPos {P p : ℕ} (hp : p ≤ P) (i : Fin (2 ^ P)) : ∃ (a : Fin (2 ^ (P - p))) (b : Fin (2 ^ p)), i = chunkPos hp a b := by
  have e : 2 ^ P = 2 ^ (P - p) * 2 ^ p := by rw [← Nat.pow_add, Nat.sub_add_cancel hp]
  have hi : i.val < 2 ^ (P - p) * 2 ^ p := e ▸ i.isLt
  refine ⟨⟨i.val / 2 ^ p, Nat.div_lt_of_lt_mul (Nat.mul_comm _ _ ▸ hi)⟩, ⟨i.val % 2 ^ p, Nat.mod_lt _ (Nat.two_pow_pos p)⟩, Fin.ext ?_⟩
  show i.val = i.val / 2 ^ p * 2 ^ p + i.val % 2 ^ p
  rw [Nat.mul_comm]
  exact (Nat.div_add_mod _ _).symm

/-- THE HALVING STEPS of a block are the stages at distances from half a group down to eight, on every lane. -/
theorem col_halves (j : ℕ) (hj : j + 4 ≤ 9) (h : SB.ShapeCasts (SG (2 ^ (9 - (j + 4))) (8 * 2 ^ (j + 1))))
    (h' : (SG (2 ^ (9 - (j + 4))) (8 * 2 ^ (j + 1))).ShapeCasts SB) (x : FVec Ideal SB .f32) (c : Fin 128) :
    col (halves (2 ^ (9 - (j + 4))) j h h' x) c = run 9 (down (j + 1)) (fun _ => false) (col x c) := by
  funext i
  obtain ⟨a, b, rfl⟩ := eq_chunkPos hj i
  unfold run
  rw [apply_flatMap_stage_chunkPos hj (down (j + 1)) (down_lt (j + 1))]
  unfold col halves
  have hn : 8 * 2 ^ (j + 1) = 2 ^ (j + 4) := by rw [Nat.pow_add 2 j 4, Nat.pow_add 2 j 1]; omega
  have hb : b.val < 8 * 2 ^ (j + 1) := by rw [hn]; exact b.isLt
  have hk : b.val / 8 < 2 ^ (j + 1) := by omega
  rw [cast_block h' _ a ⟨b.val, hb⟩ c ⟨(chunkPos hj a b).val, (chunkPos hj a b).isLt⟩ (congrArg (a.val * · + b.val) hn.symm)]
  have hx := halve_getElem (j + 1) (shapeCast (SG (2 ^ (9 - (j + 4))) (8 * 2 ^ (j + 1))) x h) [] (b.val / 8)
  rw [dif_pos hk] at hx
  obtain ⟨hl, he⟩ := List.getElem?_eq_some_iff.mp hx
  have hs := halve_shapes (F := Ideal) (2 ^ (9 - (j + 4))) (j + 1) (shapeCast (SG (2 ^ (9 - (j + 4))) (8 * 2 ^ (j + 1))) x h) []
  rw [List.map_nil, List.append_nil] at hs
  rw [concatenate_apply_piece (t := SG (2 ^ (9 - (j + 4))) (8 * 2 ^ (j + 1))) 1 _ (concatenates_halve _ j _) (ValueIdx.ix3 a ⟨b.val, hb⟩ c) (b.val / 8) hl (SG (2 ^ (9 - (j + 4))) 8) _ he rfl (8 * (b.val / 8)) ?_
    (ValueIdx.ix3 a ⟨b.val % 8, Nat.mod_lt _ (by decide)⟩ c) ?_ ?_]
  · unfold piece
    show run (j + 4) (down (j + 1)) _ _ _ = run (j + 4) (down (j + 1)) _ _ b
    have e : (fun r : Fin (2 ^ (j + 4)) => x (ValueIdx.ix2 (n0 := 512) ⟨(chunkPos hj a r).val, (chunkPos hj a r).isLt⟩ c))
        = gcol (j := j + 1) (shapeCast (SG (2 ^ (9 - (j + 4))) (8 * 2 ^ (j + 1))) x h) a c := by
      funext r
      unfold gcol
      rw [cast_group h x a ⟨r.val, _⟩ c ⟨(chunkPos hj a r).val, (chunkPos hj a r).isLt⟩ (congrArg (a.val * · + r.val) hn.symm)]
    rw [e]
    refine congrArg _ (Fin.ext ?_)
    show 8 * (b.val / 8) + b.val % 8 = b.val
    omega
  · rw [List.map_take, hs, List.take_replicate, Nat.min_eq_left (le_of_lt hk), List.map_replicate, List.sum_replicate, dif_pos rfl]
    show (b.val / 8) • 8 = 8 * (b.val / 8)
    rw [smul_eq_mul, Nat.mul_comm]
  · intro e he
    match e with
    | ⟨0, _⟩ => rfl
    | ⟨1, _⟩ => exact absurd rfl he
    | ⟨2, _⟩ => rfl
  · show 8 * (b.val / 8) + b.val % 8 = b.val
    omega

end Cert.Sort
-- ==== Proof.BlockSort.lean ====
/-
  THE SORT OF A BLOCK on extended reals: on every lane the block functions are runs of stages on the 512 rows. A rotation with a select is a
  stage at a distance below eight; a product with a column of signs is a change of sign by a bit of the row's number.
-/
module

public import proofs.«01_k».proof.Proof.Halving
public import proofs.«01_k».proof.Proof.Program
public import Idealize.ShloMosaic.Lib.IdealHost
public import Idealize.ShloMosaic.Lib.KernelVsHost

@[expose] public section

noncomputable section

namespace Cert.Sort

open Idealize.ShloMosaic Idealize.ShloMosaic.SortNet

/-- The first word is one and the second minus one. -/
theorem one_word : Ideal.ofBits .f32 0x3F800000#32 = 1 := Ideal.ofBits_one_f32
theorem minus_one_word : Ideal.ofBits .f32 0xBF800000#32 = -1 := by
  rw [show (-1 : EReal) = ((-(1 : ℝ) : ℝ) : EReal) by rw [EReal.coe_neg, EReal.coe_one]]
  simp [Ideal.ofBits, Ideal.ieee, -EReal.coe_mul, -EReal.coe_neg]; norm_num

theorem times_sign (b : Bool) (a : EReal) : a * (bif b then -1 else 1) = bif b then -a else a := by
  cases b with
  | false => exact mul_one a
  | true => exact (mul_neg a 1).trans (congrArg _ (mul_one a))

/-- Where a bit of the row's number is clear. -/
theorem clear_words : ∀ (s : Fin 9) (r : Fin 512),
    IntOp.cmpi .eq (IntOp.andi (BitVec.ofNat 32 r.val) (BitVec.ofNat 32 (2 ^ s.val))) 0#32 = BitVec.ofBool (!r.val.testBit s.val) := by
  decide +kernel

theorem clear_apply (s : Fin 9) (r : Fin 512) :
    clear rowNumbers (BitVec.ofNat 32 (2 ^ s.val)) (ValueIdx.ix2 r 0) = BitVec.ofBool (!r.val.testBit s.val) := by
  refine Eq.trans ?_ (clear_words s r)
  show IntOp.cmpi .eq (IntOp.andi (BitVec.ofNat 32 (0 * 512 + r.val)) _) _ = _
  rw [Nat.zero_mul, Nat.zero_add]
  rfl

theorem column_apply {α : Type} (y : SC.Idx → α) (h : SC.Broadcasts SB) (r : Fin 512) (c : Fin 128) :
    broadcastTo SB y h (ValueIdx.ix2 r c) = y (ValueIdx.ix2 r 0) := by
  refine broadcastTo_apply y h _ _ fun a => ?_
  match a with
  | ⟨0, _⟩ => rfl
  | ⟨1, _⟩ => rfl

theorem select_not (b : Bool) {α : Type} (x y : α) : Scalar.select (BitVec.ofBool (!b)) x y = bif b then y else x := by
  cases b <;> rfl

/-- A rotation of a block, read at an index. -/
theorem rotate_apply (x : FVec Ideal SB .f32) (n : BitVec 32) (h : SB.Rotates 0 none) (r r' : Fin 512) (c : Fin 128)
    (hr : r'.val = (r.val + 512 - n.toNat % 512) % 512) : dynamicRotate 0 n none x h (ValueIdx.ix2 r c) = x (ValueIdx.ix2 r' c) := by
  refine dynamicRotate_apply 0 n x h _ _ fun b => ?_
  match b with
  | ⟨0, _⟩ => exact hr
  | ⟨1, _⟩ => rfl

/-- The row a rotation brings is the partner's. -/
theorem rotate_rows : ∀ (s : Fin 3) (r : Fin (2 ^ 9)),
    (partner 9 s.val r).val = bif r.val.testBit s.val then (r.val + 512 - (BitVec.ofNat 32 (2 ^ s.val)).toNat % 512) % 512
      else (r.val + 512 - (BitVec.ofNat 32 (512 - 2 ^ s.val)).toNat % 512) % 512 := by
  decide +kernel

/-- A stage by rotation. -/
theorem col_roll (s : Fin 3) (x : FVec Ideal SB .f32) (c : Fin 128) :
    col (roll rowNumbers (BitVec.ofNat 32 (512 - 2 ^ s.val)) (BitVec.ofNat 32 (2 ^ s.val)) x) c
      = run 9 [s.val] (fun _ => false) (col x c) := by
  funext r
  rw [run_cons, run_nil, stage_apply (by omega)]
  have hc := clear_apply (s.castLE (by decide)) ⟨r.val, r.isLt⟩
  have hp := rotate_rows s r
  unfold col roll
  rw [ValueIdx.select_apply, column_apply, shapeCast_self]
  erw [hc]
  rw [select_not]
  show (bif r.val.testBit s.val then _ else _) = _
  cases hb : r.val.testBit s.val with
  | false =>
    rw [hb, cond_false] at hp
    rw [cond_false, cond_false]
    exact congrArg (min _) (rotate_apply x _ _ ⟨r.val, r.isLt⟩ ⟨(partner 9 s.val r).val, (partner 9 s.val r).isLt⟩ c hp)
  | true =>
    rw [hb, cond_true] at hp
    rw [cond_true, cond_true]
    exact congrArg (max _) (rotate_apply x _ _ ⟨r.val, r.isLt⟩ ⟨(partner 9 s.val r).val, (partner 9 s.val r).isLt⟩ c hp)

theorem col_roll1 (x : FVec Ideal SB .f32) (c : Fin 128) : col (roll1 rowNumbers x) c = run 9 [0] (fun _ => false) (col x c) :=
  col_roll 0 x c

theorem col_roll2 (x : FVec Ideal SB .f32) (c : Fin 128) : col (roll2 rowNumbers x) c = run 9 [1, 0] (fun _ => false) (col x c) := by
  refine (col_roll1 _ c).trans ?_
  rw [run_cons 9 1, show [0] = [] ++ [0] from rfl, run_append, run_append]
  exact congrArg _ (col_roll 1 x c)

theorem col_roll4 (x : FVec Ideal SB .f32) (c : Fin 128) : col (roll4 rowNumbers x) c = run 9 [2, 1, 0] (fun _ => false) (col x c) := by
  refine (col_roll2 _ c).trans ?_
  rw [run_cons 9 2]
  exact congrArg _ (col_roll 2 x c)

/-- A change of sign by a bit of the row's number. -/
theorem col_scale (s : Fin 9) (x : FVec Ideal SB .f32) (c : Fin 128) :
    col (scale x (sign rowNumbers (BitVec.ofNat 32 (2 ^ s.val)))) c = flip (fun i => i.val.testBit s.val) (col x c) := by
  funext r
  have hc := clear_apply s ⟨r.val, r.isLt⟩
  unfold col scale flip sign
  show x _ * broadcastTo SB _ _ _ = _
  rw [column_apply, ValueIdx.select_apply, hc, select_not]
  show x _ * (bif r.val.testBit s.val then Ideal.ofBits .f32 0xBF800000#32 else Ideal.ofBits .f32 0x3F800000#32) = _
  rw [one_word, minus_one_word]
  exact times_sign _ _

/-- Two changes of sign in one. -/
theorem scale_signs (v0 : IVec SC 32) (m m' : BitVec 32) (x : FVec Ideal SB .f32) :
    scale x (signs v0 m m') = scale (scale x (sign v0 m)) (sign v0 m') := by
  funext i
  exact (mul_assoc (G := EReal) _ _ _).symm

/-- Ascending stages between two changes of sign by a bit above them. -/
theorem col_phase (s : Fin 9) (S : List ℕ) (hS : ∀ t ∈ S, t < s.val) (f : FVec Ideal SB .f32 → FVec Ideal SB .f32)
    (hf : ∀ x c, col (f x) c = run 9 S (fun _ => false) (col x c)) (y : FVec Ideal SB .f32) (c : Fin 128) :
    col (scale (f (scale y (sign rowNumbers (BitVec.ofNat 32 (2 ^ s.val))))) (sign rowNumbers (BitVec.ofNat 32 (2 ^ s.val)))) c
      = run 9 S (fun i => i.val.testBit s.val) (col y c) := by
  rw [col_scale, hf, col_scale]
  exact flip_run_bit S (fun t ht => ⟨by have := hS t ht; omega, hS t ht⟩) _

/-- Halving steps followed by the stages four, two and one. -/
theorem col_halves_roll (j : ℕ) (hj : j + 4 ≤ 9) (h : SB.ShapeCasts (SG (2 ^ (9 - (j + 4))) (8 * 2 ^ (j + 1))))
    (h' : (SG (2 ^ (9 - (j + 4))) (8 * 2 ^ (j + 1))).ShapeCasts SB) (x : FVec Ideal SB .f32) (c : Fin 128) :
    col (roll4 rowNumbers (halves (2 ^ (9 - (j + 4))) j h h' x)) c = run 9 (down (j + 1) ++ [2, 1, 0]) (fun _ => false) (col x c) := by
  rw [col_roll4, col_halves j hj, run_append]

/-- The distances of level `l`, as exponents: `l` down to zero. -/
def steps (l : ℕ) : List ℕ := (List.range (l + 1)).reverse

theorem col_cascade (x : FVec Ideal SB .f32) (c : Fin 128) :
    col (cascade rowNumbers x) c = run 9 (steps 8) (fun _ => false) (col x c) := col_halves_roll 5 (by decide) _ _ x c

/-- The first levels of the sort of a lane: level `l` sorts in the direction of the bit `l + 1` of the row. -/
def levels {p : ℕ} : ℕ → (Fin (2 ^ p) → EReal) → Fin (2 ^ p) → EReal
  | 0, v => v
  | l + 1, v => run p (steps l) (fun i => i.val.testBit (l + 1)) (levels l v)

/-- The first eight phases of a block are its first eight levels. -/
theorem col_phases (x : FVec Ideal SB .f32) (c : Fin 128) : col (phases rowNumbers x) c = levels 8 (col x c) := by
  unfold phases
  simp only [scale_signs]
  refine (col_phase 8 (steps 7) (by decide) _ (col_halves_roll 4 (by decide) _ _) _ c).trans (congrArg _ ?_)
  refine (col_phase 7 (steps 6) (by decide) _ (col_halves_roll 3 (by decide) _ _) _ c).trans (congrArg _ ?_)
  refine (col_phase 6 (steps 5) (by decide) _ (col_halves_roll 2 (by decide) _ _) _ c).trans (congrArg _ ?_)
  refine (col_phase 5 (steps 4) (by decide) _ (col_halves_roll 1 (by decide) _ _) _ c).trans (congrArg _ ?_)
  refine (col_phase 4 (steps 3) (by decide) _ (col_halves_roll 0 (by decide) _ _) _ c).trans (congrArg _ ?_)
  refine (col_phase 3 (steps 2) (by decide) _ col_roll4 _ c).trans (congrArg _ ?_)
  refine (col_phase 2 (steps 1) (by decide) _ col_roll2 _ c).trans (congrArg _ ?_)
  exact col_phase 1 (steps 0) (by decide) _ col_roll1 _ c

/-- A change of sign of a whole block. -/
theorem col_turn (up : Bool) (x : FVec Ideal SB .f32) (c : Fin 128) :
    col (turn (BitVec.ofBool up) x) c = flip (fun _ => !up) (col x c) := by
  funext r
  unfold col turn flip
  show x _ * Scalar.select (BitVec.ofBool up) (Ideal.ofBits .f32 0x3F800000#32) (Ideal.ofBits .f32 0xBF800000#32) = _
  rw [one_word, minus_one_word]
  cases up with
  | true => exact times_sign false _
  | false => exact times_sign true _

/-- A block's last level in one direction. -/
def turned (up : BitVec 1) (x : FVec Ideal SB .f32) : FVec Ideal SB .f32 := turn up (cascade rowNumbers (turn up x))

theorem col_turned (up : Bool) (x : FVec Ideal SB .f32) (c : Fin 128) :
    col (turned (BitVec.ofBool up) x) c = run 9 (steps 8) (fun _ => !up) (col x c) := by
  unfold turned
  rw [col_turn, col_cascade, col_turn]
  exact flip_run_const (steps 8) (!up) (by decide) _

/-- THE SORT OF A BLOCK: nine levels, the last in the direction asked for. -/
theorem col_sortBlock (up : Bool) (x : FVec Ideal SB .f32) (c : Fin 128) :
    col (sortBlock rowNumbers (BitVec.ofBool up) x) c = run 9 (steps 8) (fun _ => !up) (levels 8 (col x c)) := by
  rw [← col_phases]
  exact col_turned up _ c

/-- The lesser of two turned blocks is the lesser or the greater turned, -/
theorem min_turn (up : Bool) (x y : FVec Ideal SB .f32) :
    minimumf (turn (BitVec.ofBool up) x) (turn (BitVec.ofBool up) y)
      = turn (BitVec.ofBool up) (Scalar.select (BitVec.ofBool up) (minimumf x y) (maximumf x y)) := by
  funext i
  cases up with
  | true =>
    show min (x i * Ideal.ofBits .f32 0x3F800000#32) (y i * Ideal.ofBits .f32 0x3F800000#32) = min (x i) (y i) * Ideal.ofBits .f32 0x3F800000#32
    rw [one_word, mul_one, mul_one, mul_one]
  | false =>
    show min (x i * Ideal.ofBits .f32 0xBF800000#32) (y i * Ideal.ofBits .f32 0xBF800000#32) = max (x i) (y i) * Ideal.ofBits .f32 0xBF800000#32
    rw [minus_one_word, mul_neg, mul_neg, mul_neg, mul_one, mul_one, mul_one, EReal.min_neg_neg]

/-- and the greater the greater or the lesser. -/
theorem max_turn (up : Bool) (x y : FVec Ideal SB .f32) :
    maximumf (turn (BitVec.ofBool up) x) (turn (BitVec.ofBool up) y)
      = turn (BitVec.ofBool up) (Scalar.select (BitVec.ofBool up) (maximumf x y) (minimumf x y)) := by
  funext i
  cases up with
  | true =>
    show max (x i * Ideal.ofBits .f32 0x3F800000#32) (y i * Ideal.ofBits .f32 0x3F800000#32) = max (x i) (y i) * Ideal.ofBits .f32 0x3F800000#32
    rw [one_word, mul_one, mul_one, mul_one]
  | false =>
    show max (x i * Ideal.ofBits .f32 0xBF800000#32) (y i * Ideal.ofBits .f32 0xBF800000#32) = min (x i) (y i) * Ideal.ofBits .f32 0xBF800000#32
    rw [minus_one_word, mul_neg, mul_neg, mul_neg, mul_one, mul_one, mul_one, EReal.max_neg_neg]

/-- A merging step is an exchange followed by the last level of each block. -/
theorem mergeLow_eq (up : Bool) (x y : FVec Ideal SB .f32) :
    mergeLow rowNumbers (BitVec.ofBool up) x y
      = turned (BitVec.ofBool up) (Scalar.select (BitVec.ofBool up) (minimumf x y) (maximumf x y)) := by
  unfold mergeLow turned
  rw [min_turn]

theorem mergeHigh_eq (up : Bool) (x y : FVec Ideal SB .f32) :
    mergeHigh rowNumbers (BitVec.ofBool up) x y
      = turned (BitVec.ofBool up) (Scalar.select (BitVec.ofBool up) (maximumf x y) (minimumf x y)) := by
  unfold mergeHigh turned
  rw [max_turn]

end Cert.Sort
-- ==== Proof.WholeSort.lean ====
/-
  THE SORT OF A BUFFER on extended reals: on every lane, the 64 blocks after the whole sort are the lane of 32768 rows after Batcher's
  bitonic sorting network, so they ascend and are a rearrangement of the lane.
-/
module

public import proofs.«01_k».proof.Proof.BlockSort
public import proofs.«01_k».proof.Proof.Runs

@[expose] public section

noncomputable section

namespace Cert.Sort

open Idealize.ShloMosaic Idealize.ShloMosaic.SortNet

/-- A lane of a buffer in blocks, as a vector over the buffer's rows. -/
def colAll (B : Fin 64 → FVec Ideal SB .f32) (c : Fin 128) : Fin (2 ^ 15) → EReal := fun i =>
  col (B ⟨i.val / 512, Nat.div_lt_of_lt_mul i.isLt⟩) c ⟨i.val % 512, Nat.mod_lt _ (by decide)⟩

/-- The row `r` of block `b`. -/
abbrev at' (b : Fin 64) (r : Fin (2 ^ 9)) : Fin (2 ^ 15) := chunkPos (P := 15) (p := 9) (by decide) b r

theorem colAll_at (B : Fin 64 → FVec Ideal SB .f32) (c : Fin 128) (b : Fin 64) (r : Fin (2 ^ 9)) : colAll B c (at' b r) = col (B b) c r := by
  have hr : r.val < 512 := r.isLt
  unfold colAll
  have h1 : (⟨(at' b r).val / 512, Nat.div_lt_of_lt_mul (at' b r).isLt⟩ : Fin 64) = b := by
    refine Fin.ext ?_
    show (b.val * 512 + r.val) / 512 = b.val
    omega
  have h2 : (⟨(at' b r).val % 512, Nat.mod_lt _ (by decide)⟩ : Fin (2 ^ 9)) = r := by
    refine Fin.ext ?_
    show (b.val * 512 + r.val) % 512 = r.val
    omega
  rw [h1]
  exact congrArg _ h2

/-- Two vectors over the rows that agree in every block are the same. -/
theorem ext_at {v w : Fin (2 ^ 15) → EReal} (h : ∀ b r, v (at' b r) = w (at' b r)) : v = w := by
  funext i
  obtain ⟨b, r, rfl⟩ := eq_chunkPos (P := 15) (p := 9) (by decide) i
  exact h b r

theorem testBit_at_low (b : Fin 64) (r : Fin (2 ^ 9)) {t : ℕ} (ht : t < 9) : (at' b r).val.testBit t = r.val.testBit t := by
  have h := chunkPos_and (P := 15) (p := 9) (by decide) ht b r
  rw [Bool.eq_iff_iff, ← not_iff_not, Bool.not_eq_true, Bool.not_eq_true, ← and_two_pow_eq_zero_iff_testBit,
    ← and_two_pow_eq_zero_iff_testBit, h]

theorem testBit_at_high (b : Fin 64) (r : Fin (2 ^ 9)) (t : ℕ) : (at' b r).val.testBit (9 + t) = b.val.testBit t := by
  refine (chunkPos_testBit_high (P := 15) (p := 9) (by decide) b r (Nat.le_add_right 9 t)).trans ?_
  rw [Nat.add_sub_cancel_left]

/-- A run at distances inside a block acts block by block. -/
theorem run_at (S : List ℕ) (hS : ∀ s ∈ S, s < 9) (w : Fin (2 ^ 15) → Bool) (v : Fin (2 ^ 15) → EReal) (b : Fin 64) (r : Fin (2 ^ 9)) :
    run 15 S w v (at' b r) = run 9 S (fun r => w (at' b r)) (fun r => v (at' b r)) r :=
  apply_flatMap_stage_chunkPos (P := 15) (p := 9) (by decide) S hS w v b r

theorem steps_lt {l n : ℕ} (h : l < n) : ∀ s ∈ steps l, s < n := fun s hs => by
  have := List.mem_range.mp (List.mem_reverse.mp hs)
  omega

/-- The levels inside a block act block by block. -/
theorem levels_at (l : ℕ) (hl : l ≤ 8) (v : Fin (2 ^ 15) → EReal) (b : Fin 64) (r : Fin (2 ^ 9)) :
    levels l v (at' b r) = levels l (fun r => v (at' b r)) r := by
  induction l generalizing r with
  | zero => rfl
  | succ l ih =>
    rw [levels, levels, run_at _ (steps_lt (by omega)), funext fun r => ih (by omega) r]
    exact congrFun (run_congr _ (fun r => testBit_at_low b r (by omega)) _) r

/-! ## The loops -/

theorem sortUp_eq : ∀ b : Fin 64, sortUp b.val = BitVec.ofBool (!b.val.testBit 0) := by decide +kernel
theorem mergeUp_eq : ∀ (s : Fin 6) (b : Fin 64), mergeUp s.val (pairOf 0 b).val = BitVec.ofBool (!b.val.testBit (1 + s.val)) := by decide +kernel
theorem exchangeUp_eq : ∀ (s d : Fin 6) (b : Fin 64), d ≤ s →
    exchangeUp s.val d.val (pairOf d b).val = BitVec.ofBool (!b.val.testBit (1 + s.val)) := by decide +kernel
theorem far_eq : ∀ (d : Fin 6) (b : Fin 64), isFar d b = false → far d (pairOf d b) = partner 6 d.val b := by decide +kernel
theorem near_eq : ∀ (d : Fin 6) (b : Fin 64), isFar d b = true → near d (pairOf d b) = partner 6 d.val b := by decide +kernel

/-- The first loop: the levels of a block. -/
theorem colAll_sortAll (B : Fin 64 → FVec Ideal SB .f32) (c : Fin 128) : colAll (sortAll rowNumbers B) c = levels 9 (colAll B c) := by
  refine ext_at fun b r => ?_
  rw [colAll_at, levels, run_at _ (steps_lt (by decide)), funext fun r => levels_at 8 (le_refl 8) (colAll B c) b r,
    funext fun r => colAll_at B c b r]
  unfold sortAll each
  dsimp only
  rw [if_pos b.isLt, sortUp_eq, col_sortBlock]
  refine congrFun (run_congr _ (fun r => ?_) _) r
  rw [Bool.not_not, testBit_at_high b r 0]

/-- A block after an exchange. -/
theorem exchangeAll_apply (s d : Fin 6) (hd : d ≤ s) (B : Fin 64 → FVec Ideal SB .f32) (b : Fin 64) :
    exchangeAll s.val d B b
      = bif b.val.testBit d.val then
          Scalar.select (BitVec.ofBool (!b.val.testBit (1 + s.val))) (maximumf (B (partner 6 d.val b)) (B b)) (minimumf (B (partner 6 d.val b)) (B b))
        else Scalar.select (BitVec.ofBool (!b.val.testBit (1 + s.val))) (minimumf (B b) (B (partner 6 d.val b))) (maximumf (B b) (B (partner 6 d.val b))) := by
  unfold exchangeAll pairs
  dsimp only
  rw [if_pos (pairOf d b).isLt, exchangeUp_eq s d b hd]
  show (bif isFar d b then _ else _) = bif isFar d b then _ else _
  cases h : isFar d b with
  | false => rw [cond_false, cond_false, near_pairOf d b h, far_eq d b h]
  | true => rw [cond_true, cond_true, far_pairOf d b h, near_eq d b h]

/-- AN EXCHANGE LOOP is a stage. -/
theorem colAll_exchangeAll (s d : Fin 6) (hd : d ≤ s) (B : Fin 64 → FVec Ideal SB .f32) (c : Fin 128) :
    colAll (exchangeAll s.val d B) c
      = Network.apply (stage 15 (9 + d.val) fun i => i.val.testBit (9 + (1 + s.val))) (colAll B c) := by
  refine ext_at fun b r => ?_
  have hp : partner 15 (9 + d.val) (at' b r) = at' (partner 6 d.val b) r := by
    have h := partner_chunkPos_high (P := 15) (p := 9) (s := 9 + d.val) (by decide) (Nat.le_add_right 9 _) (by omega) b r
    rw [Nat.add_sub_cancel_left] at h
    exact h
  have hb : (partner 6 d.val b).val.testBit (1 + s.val) = b.val.testBit (1 + s.val) :=
    testBit_partner (p := 6) d.isLt (by have : d.val ≤ s.val := hd; omega) b
  rw [stage_apply (by omega), hp, testBit_at_high, testBit_at_high, testBit_at_high, hb, colAll_at, colAll_at, colAll_at,
    exchangeAll_apply s d hd]
  cases b.val.testBit d.val <;> cases b.val.testBit (1 + s.val)
  · rfl
  · rfl
  · exact max_comm _ _
  · exact min_comm _ _

theorem exchangeUp_zero : ∀ (s : Fin 6) (k : Fin 32), exchangeUp s.val 0 k.val = mergeUp s.val k.val := by decide +kernel

/-- A block after a merging loop. -/
theorem mergeAll_apply (s : Fin 6) (B : Fin 64 → FVec Ideal SB .f32) (b : Fin 64) :
    mergeAll rowNumbers s.val B b = turned (BitVec.ofBool (!b.val.testBit (1 + s.val))) (exchangeAll s.val 0 B b) := by
  unfold mergeAll exchangeAll pairs
  dsimp only
  rw [if_pos (pairOf 0 b).isLt, if_pos (pairOf 0 b).isLt, mergeUp_eq, mergeLow_eq, mergeHigh_eq]
  rw [show exchangeUp s.val ((0 : Fin 6) : ℕ) (pairOf 0 b).val = mergeUp s.val (pairOf 0 b).val from exchangeUp_zero s _, mergeUp_eq]
  cases isFar 0 b <;> rfl

/-- A MERGING LOOP is the stage of neighbouring blocks and the stages inside the blocks. -/
theorem colAll_mergeAll (s : Fin 6) (B : Fin 64 → FVec Ideal SB .f32) (c : Fin 128) :
    colAll (mergeAll rowNumbers s.val B) c = run 15 (9 :: steps 8) (fun i => i.val.testBit (9 + (1 + s.val))) (colAll B c) := by
  rw [run_cons]
  have he := colAll_exchangeAll s 0 (Fin.zero_le s) B c
  refine ext_at fun b r => ?_
  rw [run_at _ (steps_lt (by decide)), colAll_at, mergeAll_apply, col_turned]
  rw [show (fun r => Network.apply (stage 15 9 fun i => i.val.testBit (9 + (1 + s.val))) (colAll B c) (at' b r))
      = fun r => colAll (exchangeAll s.val 0 B) c (at' b r) from by rw [he]; rfl, funext fun r => colAll_at (exchangeAll s.val 0 B) c b r]
  refine congrFun (run_congr _ (fun r => ?_) _) r
  rw [Bool.not_not, testBit_at_high]

/-- The exchange loops of a level, the farthest first. -/
def exchanges (s : Fin 6) : List (Fin 6) → (Fin 64 → FVec Ideal SB .f32) → Fin 64 → FVec Ideal SB .f32
  | [], B => B
  | d :: D, B => exchanges s D (exchangeAll s.val d B)

theorem colAll_exchanges (s : Fin 6) (D : List (Fin 6)) (hD : ∀ d ∈ D, d ≤ s) (B : Fin 64 → FVec Ideal SB .f32) (c : Fin 128) :
    colAll (exchanges s D B) c = run 15 (D.map fun d => 9 + d.val) (fun i => i.val.testBit (9 + (1 + s.val))) (colAll B c) := by
  induction D generalizing B with
  | nil => rfl
  | cons d D ih =>
    rw [exchanges, ih (fun e he => hD e (List.mem_cons_of_mem d he)), colAll_exchangeAll s d (hD d List.mem_cons_self), List.map_cons, run_cons]

/-- The distances of a level's exchange loops. -/
def apart (s : Fin 6) : List (Fin 6) := (List.finRange 6).reverse.filter fun d => decide (0 < d ∧ d ≤ s)

/-- A LEVEL of merging: its exchange loops, then its merging loop. -/
theorem level (s : Fin 6) (B : Fin 64 → FVec Ideal SB .f32) (c : Fin 128) :
    colAll (mergeAll rowNumbers s.val (exchanges s (apart s) B)) c
      = run 15 (steps (9 + s.val)) (fun i => i.val.testBit (9 + s.val + 1)) (colAll B c) := by
  rw [colAll_mergeAll, colAll_exchanges s (apart s) (by revert s; decide), ← run_append]
  rw [show (apart s).map (fun d => 9 + d.val) ++ 9 :: steps 8 = steps (9 + s.val) from by revert s; decide]
  rw [show 9 + (1 + s.val) = 9 + s.val + 1 by omega]

/-- THE WHOLE SORT is fifteen levels. -/
theorem colAll_sortedBlocks (B : Fin 64 → FVec Ideal SB .f32) (c : Fin 128) :
    colAll (sortedBlocks rowNumbers B) c = levels 15 (colAll B c) := by
  unfold sortedBlocks
  refine (level 5 _ c).trans (congrArg _ ?_)
  refine (level 4 _ c).trans (congrArg _ ?_)
  refine (level 3 _ c).trans (congrArg _ ?_)
  refine (level 2 _ c).trans (congrArg _ ?_)
  refine (level 1 _ c).trans (congrArg _ ?_)
  exact (level 0 _ c).trans (congrArg _ (colAll_sortAll B c))

/-- The levels are the library's sorting network. -/
theorem levels_eq (p l : ℕ) (v : Fin (2 ^ p) → EReal) :
    levels l v = Network.apply ((List.range l).flatMap fun l => (List.range (l + 1)).reverse.flatMap fun s =>
      stage p s fun i => (decide (i.val &&& 2 ^ (l + 1) = 0)) == false) v := by
  induction l with
  | zero => rfl
  | succ l ih =>
    rw [levels, ih, List.range_succ, List.flatMap_append, Network.apply_append, List.flatMap_cons, List.flatMap_nil, List.append_nil]
    refine (run_congr (steps l) (fun i => ?_) _)
    rw [Bool.eq_iff_iff, beq_iff_eq, decide_eq_false_iff_not, and_two_pow_eq_zero_iff_testBit, Bool.not_eq_false]

/-- A lane after the whole sort ascends, -/
theorem sorted_monotone (B : Fin 64 → FVec Ideal SB .f32) (c : Fin 128) : Monotone (colAll (sortedBlocks rowNumbers B) c) := by
  rw [colAll_sortedBlocks, levels_eq]
  exact sortNet_apply_monotone 15 _

/-- and is a rearrangement of the lane before it. -/
theorem sorted_perm (B : Fin 64 → FVec Ideal SB .f32) (c : Fin 128) :
    ∃ σ : Equiv.Perm (Fin (2 ^ 15)), colAll (sortedBlocks rowNumbers B) c = colAll B c ∘ σ := by
  rw [colAll_sortedBlocks, levels_eq]
  exact Network.exists_perm _ _

end Cert.Sort
-- ==== Proof.HostSort.lean ====
/-
  THE REFERENCE'S SORT on extended reals: a row of 32768 entries after it ascends and is a rearrangement of the row. A vector has one
  ascending rearrangement, so a row after the reference's sort is the lane after the kernel's, where the kernel's buffer is the
  array transposed.
-/
module

public import proofs.«01_k».proof.Proof.WholeSort
public import proofs.«01_k».proof.Proof.BodyRun
public import proofs.«01_k».proof.ReferenceIdeal
public import Idealize.ShloMosaic.Lib.SortFacts

@[expose] public section

noncomputable section

namespace Cert.Sort

open Idealize.ShloMosaic Idealize.ShloMosaic.SortNet

/-- Of two ascending rearrangements of a vector, the first is nowhere above the second: were it above at a place, the places up to it
    would go one to one into the places before it. -/
theorem ascending_le {n : ℕ} {f : Fin n → EReal} {σ τ : Equiv.Perm (Fin n)} (hσ : Monotone (f ∘ σ)) (hτ : Monotone (f ∘ τ)) (i : Fin n) :
    f (σ i) ≤ f (τ i) := by
  by_contra h
  rw [not_le] at h
  have hm : ∀ j ∈ Finset.Iic i, σ.symm (τ j) ∈ Finset.Iio i := fun j hj => by
    rw [Finset.mem_Iic] at hj
    rw [Finset.mem_Iio]
    by_contra hc
    have h1 : f (σ i) ≤ f (σ (σ.symm (τ j))) := hσ (not_lt.mp hc)
    rw [Equiv.apply_symm_apply] at h1
    exact absurd (h1.trans (hτ hj)) (not_le.mpr h)
  have hc := Finset.card_le_card_of_injOn (fun j => σ.symm (τ j)) hm fun a _ b _ hab => τ.injective (σ.symm.injective hab)
  rw [Fin.card_Iic, Fin.card_Iio] at hc
  omega

/-- So a vector has one ascending rearrangement. -/
theorem ascending_unique {n : ℕ} {f : Fin n → EReal} {σ τ : Equiv.Perm (Fin n)} (hσ : Monotone (f ∘ σ)) (hτ : Monotone (f ∘ τ)) :
    f ∘ σ = f ∘ τ :=
  funext fun i => (ascending_le hσ hτ i).antisymm (ascending_le hτ hσ i)

/-- An argument: 128 rows of 32768 entries. -/
abbrev SR : Shape := ⟨2, ![128, 32768]⟩

/-- The reference's comparator puts the lesser extended real first: replacing a zero by zero changes nothing and no value differs
    from itself. -/
theorem comparator_eq_one (l r : Ideal .f32) : (ReferenceIdeal.comparator_f32_d1 (F := Ideal) l r == 1#1) = true ↔ (l : EReal) < r := by
  have hz : ∀ x : Ideal .f32, Scalar.select (FloatOps.cmpf .oeq x (FloatOps.ofBits .f32 0x00000000#32)) (FloatOps.ofBits .f32 0x00000000#32) x = x := by
    intro x
    by_cases h : x = FloatOps.ofBits .f32 0x00000000#32
    · rw [← h]; unfold Scalar.select; split <;> rfl
    · unfold Scalar.select
      rw [show (FloatOps.cmpf .oeq x (FloatOps.ofBits .f32 0x00000000#32) : BitVec 1) = BitVec.ofBool (decide (x = FloatOps.ofBits .f32 0x00000000#32)) from rfl]
      rw [decide_eq_false h]
      exact if_neg (by decide)
  have hn : ∀ x y z : Ideal .f32, Scalar.select (FloatOps.cmpf .une x x) y z = z := by
    intro x y z
    unfold Scalar.select
    rw [show (FloatOps.cmpf .une x x : BitVec 1) = BitVec.ofBool (decide (x ≠ x)) from rfl]
    simp
  unfold ReferenceIdeal.comparator_f32_d1
  dsimp only
  rw [hz, hz, hn, hn]
  rw [show (FloatOps.cmpfTotal .lt l r : BitVec 1) = BitVec.ofBool (decide ((l : EReal) < r)) from rfl]
  by_cases h : (l : EReal) < r <;> simp [h]

/-- A row of an argument. -/
def row (x : FVec Ideal SR .f32) (c : Fin 128) : Fin 32768 → EReal := fun i => x (ValueIdx.ix2 c i)

/-- Whether the reference puts one place of a vector before another. -/
def before {n : ℕ} (v : Fin n → EReal) (k k' : Fin n) : Bool := ReferenceIdeal.comparator_f32_d1 (F := Ideal) (v k) (v k') == 1#1

theorem before_iff {n : ℕ} (v : Fin n → EReal) (k k' : Fin n) : before v k k' = true ↔ v k < v k' := comparator_eq_one _ _

theorem before_false {n : ℕ} (v : Fin n → EReal) (k k' : Fin n) : before v k k' = false ↔ v k' ≤ v k := by
  rw [← not_lt, ← before_iff, Bool.not_eq_true]

/-- The places of a vector in the reference's order, as a permutation. -/
def order {n : ℕ} (v : Fin n → EReal) : Equiv.Perm (Fin n) :=
  Equiv.ofBijective (sortedFrom (before v)) ⟨sortedFrom_injective _, sortedFrom_surjective _⟩

/-- In that order the vector ascends. -/
theorem order_monotone {n : ℕ} (v : Fin n → EReal) : Monotone (v ∘ order v) := by
  intro i j hij
  rcases hij.eq_or_lt with rfl | h
  · exact le_refl _
  · exact (before_false v _ _).mp (sortedFrom_noInversion (before v) (before v)
      (fun a b h => (before_false v _ _).mpr ((before_iff v _ _).mp h).le) (fun _ _ h => h)
      (fun a b d h1 h2 => (before_false v _ _).mpr (((before_false v _ _).mp h2).trans ((before_false v _ _).mp h1))) i j h)

theorem along_row (c : Fin 128) (i k : Fin 32768) :
    (ValueIdx.ix2 (n0 := 128) (n1 := 32768) c i).along (1 : Fin 2) k = ValueIdx.ix2 c k := by
  funext a
  unfold Shape.Idx.along
  match a with
  | ⟨0, _⟩ => rfl
  | ⟨1, _⟩ => rfl

/-- The host's sort along the second axis at an entry. -/
theorem sort_apply {α : Type} (cmp : α → α → BitVec 1) (x : SR.Idx → α) (j : SR.Idx) :
    Host.sort SR 1 cmp x j
      = x (j.along (1 : Fin 2) (sortedFrom (fun k k' => cmp (x (j.along (1 : Fin 2) k)) (x (j.along (1 : Fin 2) k')) == 1#1) (j (1 : Fin 2)))) := by
  unfold Host.sort
  exact dif_pos (show 1 < SR.rank by decide)

theorem order_apply {n : ℕ} (v : Fin n → EReal) (i : Fin n) : order v i = sortedFrom (before v) i := rfl

/-- The reference's sort reads a row in that order. -/
theorem row_sort (x : FVec Ideal SR .f32) (c : Fin 128) :
    row (Host.sort SR 1 (ReferenceIdeal.comparator_f32_d1 (F := Ideal)) x) c = row x c ∘ order (row x c) := by
  funext i
  have hb : (fun k k' : Fin 32768 => ReferenceIdeal.comparator_f32_d1 (F := Ideal)
      (x ((ValueIdx.ix2 (n0 := 128) (n1 := 32768) c i).along (1 : Fin 2) k))
      (x ((ValueIdx.ix2 (n0 := 128) (n1 := 32768) c i).along (1 : Fin 2) k')) == 1#1) = before (row x c) :=
    funext fun k => funext fun k' => by rw [along_row, along_row]; rfl
  rw [Function.comp_apply, order_apply, ← hb]
  unfold row
  rw [sort_apply]
  exact congrArg x (along_row c i _)

/-- The rows of a buffer, counted as a power of two. -/
def lift : Fin 32768 ≃o Fin (2 ^ 15) := Fin.castOrderIso (by norm_num)

theorem lift_val (i : Fin 32768) : (lift i).val = i.val := rfl

/-- The kernel's buffer over the transposed array holds a row of the array on each lane. -/
theorem colAll_blocks (X : FVec Ideal SA .f32) (x : FVec Ideal SR .f32)
    (hX : ∀ (i : Fin 32768) (c : Fin 128), X (ValueIdx.ix2 i c) = x (ValueIdx.ix2 c i)) (c : Fin 128) :
    colAll (blocks X) c ∘ lift = row x c := by
  funext i
  refine Eq.trans ?_ (hX i c)
  unfold colAll col blocks
  refine congrArg X (funext fun a => Fin.ext ?_)
  match a with
  | ⟨0, _⟩ => exact (place_row _ _).trans (Nat.div_add_mod i.val 512)
  | ⟨1, _⟩ => exact place_lane _ _

/-- The two sorts agree: a lane after the kernel's whole sort is the row after the reference's. -/
theorem sorts_agree (X : FVec Ideal SA .f32) (x : FVec Ideal SR .f32)
    (hX : ∀ (i : Fin 32768) (c : Fin 128), X (ValueIdx.ix2 i c) = x (ValueIdx.ix2 c i)) (c : Fin 128) :
    colAll (sortedBlocks rowNumbers (blocks X)) c ∘ lift = row (Host.sort SR 1 (ReferenceIdeal.comparator_f32_d1 (F := Ideal)) x) c := by
  obtain ⟨σ, hσ⟩ := sorted_perm (blocks X) c
  have he : colAll (sortedBlocks rowNumbers (blocks X)) c ∘ lift
      = row x c ∘ ((lift.toEquiv.trans σ).trans lift.toEquiv.symm : Equiv.Perm (Fin 32768)) := by
    funext i
    rw [hσ, ← colAll_blocks X x hX]
    exact congrArg (colAll (blocks X) c) (lift.apply_symm_apply (σ (lift i))).symm
  have hm : Monotone (colAll (sortedBlocks rowNumbers (blocks X)) c ∘ lift) := (sorted_monotone (blocks X) c).comp lift.monotone
  rw [he] at hm ⊢
  rw [row_sort]
  exact ascending_unique hm (order_monotone (row x c))

end Cert.Sort
-- ==== Proof.Sums.lean ====
/-
  THE SUM on extended reals: the body's sum over 16 runs of 2048 rows, and the reference's sum over the whole array, are one sum of
  squared differences over every row and lane. Addition of extended reals is commutative and associative, so the two orders agree.
-/
module

public import proofs.«01_k».proof.Proof.HostSort
public import Idealize.ShloMosaic.Lib.IdealHost

@[expose] public section

noncomputable section

namespace Cert.Sort

open Idealize.ShloMosaic

/-- The square of a difference. -/
def gap (u v : EReal) : EReal := (u - v) * (u - v)

/-- The sum of the squared differences of two runs of rows. -/
theorem squares_eq (x y : FVec Ideal SS .f32) :
    squares x y = ∑ a : Fin 2048, ∑ b : Fin 128, gap (x (ValueIdx.ix2 a b)) (y (ValueIdx.ix2 a b)) := by
  unfold squares extractAt shapeCast
  refine (Ideal.multiReduction_add_total _ _ _ (by decide) _ _ _).trans ?_
  refine (Equiv.sum_comp (Shape.reshapeEquiv _) (mulf (subf x y) (subf x y) : SS.Idx → EReal)).trans ?_
  exact ValueIdx.sum_idx2 (fun i : SS.Idx => gap (x i) (y i))

/-- A run of rows, entry by entry. -/
theorem part_apply (X : FVec Ideal SA .f32) (k : Fin 16) (a : Fin 2048) (b : Fin 128) :
    part X k (ValueIdx.ix2 a b) = X (ValueIdx.ix2 (finProdFinEquiv (m := 16) (n := 2048) (k, a)) b) := by
  unfold part
  refine congrArg X (funext fun d => Fin.ext ?_)
  match d with
  | ⟨0, _⟩ =>
    show (Scalar.indexCast (Scalar.muli (trip k) 2048#32)).toNat + 1 * a.val = a.val + 2048 * k.val
    rw [sumOff_eq k]
    omega
  | ⟨1, _⟩ =>
    show 0 + 1 * b.val = b.val
    omega

/-- The body's running sum after `n` runs of rows. -/
theorem total_eq (X Y : FVec Ideal SA .f32) (n : ℕ) (hn : n ≤ 16) :
    total X Y n = ∑ k : Fin n, squares (part X (k.castLE hn)) (part Y (k.castLE hn)) := by
  induction n with
  | zero => exact Ideal.ofBits_zero_f32
  | succ n ih =>
    rw [Fin.sum_univ_castSucc, total, dif_pos (Nat.lt_of_succ_le hn), ih (Nat.le_of_succ_le hn)]
    rfl

/-- The body's sum is the sum over every row and lane. -/
theorem total_all (X Y : FVec Ideal SA .f32) :
    total X Y 16 = ∑ i : Fin 32768, ∑ b : Fin 128, gap (X (ValueIdx.ix2 i b)) (Y (ValueIdx.ix2 i b)) := by
  rw [total_eq X Y 16 (le_refl 16)]
  refine Eq.trans ?_ (Equiv.sum_comp (finProdFinEquiv (m := 16) (n := 2048))
    (fun i : Fin 32768 => ∑ b : Fin 128, gap (X (ValueIdx.ix2 i b)) (Y (ValueIdx.ix2 i b))))
  rw [Fintype.sum_prod_type]
  refine Finset.sum_congr rfl fun k _ => ?_
  rw [squares_eq]
  refine Finset.sum_congr rfl fun a _ => Finset.sum_congr rfl fun b _ => ?_
  exact congrArg₂ gap (part_apply X k a b) (part_apply Y k a b)

/-- Contents from their blocks, entry by entry. -/
theorem whole_apply (B : Fin 64 → FVec Ideal SB .f32) (i : Fin 32768) (b : Fin 128) :
    whole B (ValueIdx.ix2 i b) = (colAll B b ∘ lift) i := rfl

/-- The reference's sum of squared differences of its two sorted arguments. -/
def hostSum (x y : FVec Ideal SR .f32) : EReal :=
  ∑ b : Fin 128, ∑ i : Fin 32768,
    gap (row (Host.sort SR 1 (ReferenceIdeal.comparator_f32_d1 (F := Ideal)) x) b i)
      (row (Host.sort SR 1 (ReferenceIdeal.comparator_f32_d1 (F := Ideal)) y) b i)

/-- The body's word is the reference's sum, where each operand is an argument transposed. -/
theorem bodyWord_eq (X Y : FVec Ideal SA .f32) (x y : FVec Ideal SR .f32)
    (hX : ∀ (i : Fin 32768) (c : Fin 128), X (ValueIdx.ix2 i c) = x (ValueIdx.ix2 c i))
    (hY : ∀ (i : Fin 32768) (c : Fin 128), Y (ValueIdx.ix2 i c) = y (ValueIdx.ix2 c i)) : bodyWord X Y = hostSum x y := by
  unfold bodyWord hostSum
  rw [total_all, Finset.sum_comm]
  refine Finset.sum_congr rfl fun b _ => Finset.sum_congr rfl fun i _ => ?_
  rw [whole_apply, whole_apply, sorts_agree X x hX, sorts_agree Y y hY]

/-- The reference's reduction of the squared differences is that sum. -/
theorem hostReduce_eq {u t : Shape} {axes : List (Fin SR.rank)} (x y : FVec Ideal SR .f32) (h : SR.ReducesTo axes t) (ht : ∀ b, t.size b = 1)
    (hu : 0 < u.numel) (j : t.Idx) :
    Host.reduceAdd
      (mulf (subf (Host.sort SR 1 (ReferenceIdeal.comparator_f32_d1 (F := Ideal)) x) (Host.sort SR 1 (ReferenceIdeal.comparator_f32_d1 (F := Ideal)) y))
        (subf (Host.sort SR 1 (ReferenceIdeal.comparator_f32_d1 (F := Ideal)) x) (Host.sort SR 1 (ReferenceIdeal.comparator_f32_d1 (F := Ideal)) y)))
      (constant u .f32 0x00000000#32) h hu j = hostSum x y := by
  refine (Ideal.hostReduceAdd_total h ht _ _ j).trans ?_
  rw [show (constant u .f32 0x00000000#32 : FVec Ideal u .f32) (Shape.Idx.first hu) = 0 from Ideal.ofBits_zero_f32, zero_add]
  exact ValueIdx.sum_idx2 (fun i : SR.Idx => gap (Host.sort SR 1 (ReferenceIdeal.comparator_f32_d1 (F := Ideal)) x i)
    (Host.sort SR 1 (ReferenceIdeal.comparator_f32_d1 (F := Ideal)) y i))

end Cert.Sort
-- ==== Proof.KernelIdealValue.lean ====
/-
  THE RESULT OF `KernelIdeal`: the host lines around the body read at extended reals. The operands are the two arguments transposed, the
  pipeline's array ends with the body's word, and the result is that word over the number of entries.
-/
module

public import proofs.«01_k».proof.Proof.KernelIdealLaunch
public import proofs.«01_k».proof.Proof.Sums
public import Idealize.ShloMosaic.Lib.ValueLayout
public import Idealize.ShloMosaic.Lib.Pipeline.ValueKit.Geometry

@[expose] public section

noncomputable section

namespace Cert.KernelIdeal.Launch

open Cert.KernelIdeal Cert.KernelIdeal.Gen
open Cert.Sort (bodyWord bodyWord_eq hostSum)
open Idealize.ShloMosaic Idealize.ShloMosaic.TcCoe Idealize.ShloMosaic.Tactic
open Idealize.ShloMosaic.Pipeline (Dat Cfg Window)

section any

variable {F : FTy → Type} [FloatOps F] (m : (ℓ : Loc nD τ sig) → Buf (Elt F) ℓ)

/-- The first operand is the first argument transposed, -/
theorem V_first (c : Dev nD) : Gen.V m c main_call0_v0
    = transpose S32768x128 [1, 0] (m ((c : Thread nD τ).loc main_arg0)) transposes_S128x32768_S32768x128_1_0 := by
  show StableHlo.after (List.flatten [hostOps0]) _ (Proc.devRef .tc main_call0_v0) = _
  simp only [List.flatten_cons, List.flatten_nil, List.append_nil]
  after_results
  rfl

/-- and the second operand the second argument transposed. -/
theorem V_second (c : Dev nD) : Gen.V m c main_call0_v1
    = transpose S32768x128 [1, 0] (m ((c : Thread nD τ).loc main_arg1)) transposes_S128x32768_S32768x128_1_0 := by
  show StableHlo.after (List.flatten [hostOps0]) _ (Proc.devRef .tc main_call0_v1) = _
  simp only [List.flatten_cons, List.flatten_nil, List.append_nil]
  after_results
  rfl

/-- The pipeline's array ends holding the body's word. -/
theorem array_eq (c : Dev nD) : (dats m 0 c).arrAt 0 (cfgs 0).N = fun _ => word m c := by
  refine (dats m 0 c).arrAt_eq_of_covers 0 _ (by decide +kernel) fun t _ y => ?_
  rw [after_eq]
  rfl

/-- The result: the word divided by the number of entries. -/
theorem result_eq (c : Dev nD) : result m c = Host.divf (fun _ => word m c) (constant S_ .f32 0x4A800000#32) := by
  have hw : Pipeline.withArrays spec0 c (Gen.V0 m c) (fun w => (dats m 0 c).arrAt w (cfgs 0).N) (Proc.devRef .tc main_call0_v2)
      = fun _ => word m c :=
    (Pipeline.withArrays_arr spec0 (by decide) c (Gen.V0 m c) (fun w => (dats m 0 c).arrAt w (cfgs 0).N) 0).trans (array_eq m c)
  unfold result Pipeline.afterTail₀
  simp only [List.flatten_cons, List.flatten_nil, List.append_nil]
  after_results
  exact congrArg (fun A : S1x1.Idx → F .f32 => Host.divf (shapeCast S_ A shapeCasts_S1x1_S_) (constant S_ .f32 0x4A800000#32)) hw

end any

/-- On extended reals the word is the reference's sum over the arguments. -/
theorem word_eq (m : (ℓ : Loc nD τ sig) → Buf (Elt Ideal) ℓ) (c : Dev nD) :
    word m c = hostSum (m ((c : Thread nD τ).loc main_arg0)) (m ((c : Thread nD τ).loc main_arg1)) := by
  unfold word
  refine bodyWord_eq _ _ _ _ (fun i b => ?_) (fun i b => ?_)
  · rw [V_first]; exact ValueIdx.transpose_ix2_apply _ _ i b
  · rw [V_second]; exact ValueIdx.transpose_ix2_apply _ _ i b

end Cert.KernelIdeal.Launch
-- ==== Proof.lean ====
/-
  THE CLAIM: the runs' frames, and the equality of the kernel's and the reference's results.
-/
module

public import proofs.«01_k».proof.Defs
public import proofs.«01_k».proof.Proof.KernelLaunch
public import proofs.«01_k».proof.Proof.KernelIdealValue
public import proofs.«01_k».proof.Proof.Gen.ReferenceIdeal.Run

@[expose] public section

noncomputable section

namespace Cert.Proof

open Idealize.ShloMosaic

/-- Every final state of the reference leaves its arguments as they were and every semaphore at zero. -/
theorem reference_frame : Cert.quiescent_ReferenceIdeal (hReferenceIdeal := Cert.ReferenceIdeal.Gen.facts) := fun m ρ _ =>
  (θ_run (Cert.ReferenceIdeal.defs (F := Ideal)) _ _).mono
    (fun r h => ⟨fun c => ⟨(h c).2.1, (h c).2.2⟩, Idealize.ShloMosaic.sem_eq_zero_of_no_sems (by decide) r.2⟩)
    (Cert.ReferenceIdeal.Value.run m ρ)

/-- On extended reals, from the same arguments, the kernel and the reference leave the same result. -/
theorem same_result : Cert.algebraic_KernelIdeal_ReferenceIdeal (hKernelIdeal := Cert.KernelIdeal.Gen.facts)
    (hReferenceIdeal := Cert.ReferenceIdeal.Gen.facts) := by
  intro m ρ m' ρ' _ hargs
  refine ⟨fun c => Cert.KernelIdeal.Launch.result m c,
    (θ_run _ _ _).mono (fun r h c => h.1 c) (Cert.KernelIdeal.Launch.run_all m ρ),
    (θ_run _ _ _).mono (fun r h c => ⟨(h c).1.trans ?_, (h c).2.1, (h c).2.2⟩) (Cert.ReferenceIdeal.Value.run m' ρ')⟩
  rw [(hargs c).1, (hargs c).2]
  refine Eq.trans ?_ (Cert.KernelIdeal.Launch.result_eq m c).symm
  rw [Cert.KernelIdeal.Launch.word_eq]
  exact congrArg (fun s => Host.divf s _) (funext fun j => Cert.Sort.hostReduce_eq _ _ _ (fun b => b.elim0) _ j)

/-- Every claim of the certificate. -/
theorem claim : Cert.Claim :=
  ⟨Cert.Kernel.Gen.facts, Cert.KernelIdeal.Gen.facts, Cert.ReferenceIdeal.Gen.facts,
    fun m ρ _ => Cert.Kernel.Launch.frame m ρ, fun m ρ _ => Cert.KernelIdeal.Launch.frame m ρ, reference_frame, trivial, same_result⟩

end Cert.Proof

end
